-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4096x512 : Shape := ⟨2, ![4096, 512]⟩
abbrev S4096 : Shape := ⟨1, ![4096]⟩
abbrev S16x256x32 : Shape := ⟨3, ![16, 256, 32]⟩
abbrev S512x2048 : Shape := ⟨2, ![512, 2048]⟩
abbrev S2048 : Shape := ⟨1, ![2048]⟩
abbrev S2048x100 : Shape := ⟨2, ![2048, 100]⟩
abbrev S100 : Shape := ⟨1, ![100]⟩
abbrev S_ : Shape := ⟨0, ![]⟩
abbrev S4096x16x32 : Shape := ⟨3, ![4096, 16, 32]⟩
abbrev S4096x16 : Shape := ⟨2, ![4096, 16]⟩
abbrev S4096x16x1 : Shape := ⟨3, ![4096, 16, 1]⟩
abbrev S16x256 : Shape := ⟨2, ![16, 256]⟩
abbrev S1x16x256 : Shape := ⟨3, ![1, 16, 256]⟩
abbrev S16x256x4096 : Shape := ⟨3, ![16, 256, 4096]⟩
abbrev S4096x16x256 : Shape := ⟨3, ![4096, 16, 256]⟩

class Facts : Prop where
  bcast_S_S4096x512 : S_.BroadcastsInDim S4096x512 (![] : Fin 0 → Fin S4096x512.rank)
  bcast_S_S16x256x32 : S_.BroadcastsInDim S16x256x32 (![] : Fin 0 → Fin S16x256x32.rank)
  bcast_S_S512x2048 : S_.BroadcastsInDim S512x2048 (![] : Fin 0 → Fin S512x2048.rank)
  bcast_S_S2048x100 : S_.BroadcastsInDim S2048x100 (![] : Fin 0 → Fin S2048x100.rank)
  bcast_S_S2048 : S_.BroadcastsInDim S2048 (![] : Fin 0 → Fin S2048.rank)
  bcast_S_S100 : S_.BroadcastsInDim S100 (![] : Fin 0 → Fin S100.rank)
  bcast_S_S4096 : S_.BroadcastsInDim S4096 (![] : Fin 0 → Fin S4096.rank)
  shapeCasts_S4096x512_S4096x16x32 : S4096x512.ShapeCasts S4096x16x32
  reducesTo_S4096x16x32_S4096x16_d2 : S4096x16x32.ReducesTo [2] S4096x16
  h_S_ : 0 < S_.numel
  bcast_S4096x16_S4096x16x1_0_1 : S4096x16.BroadcastsInDim S4096x16x1 (![0, 1] : Fin 2 → Fin S4096x16x1.rank)
  reducesTo_S16x256x32_S16x256_d2 : S16x256x32.ReducesTo [2] S16x256
  bcast_S16x256_S1x16x256_1_2 : S16x256.BroadcastsInDim S1x16x256 (![1, 2] : Fin 2 → Fin S1x16x256.rank)
  transposes_S16x256x4096_S4096x16x256_2_0_1 : S16x256x4096.Transposes [2, 0, 1] S4096x16x256
  bcast_S_S4096x16x256 : S_.BroadcastsInDim S4096x16x256 (![] : Fin 0 → Fin S4096x16x256.rank)
  bcast_S4096x16x1_S4096x16x256_0_1_2 : S4096x16x1.BroadcastsInDim S4096x16x256 (![0, 1, 2] : Fin 3 → Fin S4096x16x256.rank)
  bcast_S1x16x256_S4096x16x256_0_1_2 : S1x16x256.BroadcastsInDim S4096x16x256 (![0, 1, 2] : Fin 3 → Fin S4096x16x256.rank)
  reducesTo_S4096x16x256_S4096x16_d2 : S4096x16x256.ReducesTo [2] S4096x16
  dot_S16x256x32_S4096x16x32_S16x256x4096_2_2_1_0_0_1_wf : DotDims.WF S16x256x32 S4096x16x32 S16x256x4096 [2] [2] [1] [0] [0] [1]

variable [Facts]

variable {F : FTy → Type} [FloatOps F]
def dot_S16x256x32_S4096x16x32_S16x256x4096_2_2_1_0_0_1 : DotDims S16x256x32 S4096x16x32 S16x256x4096 where
  lhsContracting := [2]
  rhsContracting := [2]
  lhsNonContracting := [1]
  rhsNonContracting := [0]
  lhsBatch := [0]
  rhsBatch := [1]
  wf := dot_S16x256x32_S4096x16x32_S16x256x4096_2_2_1_0_0_1_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmin {F : FTy → Type} [FloatOps F] (arg0 : FVec F S4096x16x256 .f32) : IVec S4096x16 32 :=
  let v0 : IVec S4096x16x256 32 := iotaInDim S4096x16x256 32 2
  let cst : FVec F S_ .f32 := constant S_ .f32 0x7F800000#32
  let c : IVec S_ 32 := constantI S_ 32 0#32
  let v1_0 : FVec F S4096x16 .f32 := (fun x y u v j => (Host.argReduce reducer_argmin_f32_i32 x y u v reducesTo_S4096x16x256_S4096x16_d2 h_S_ j).1) arg0 v0 cst c
  let v1_1 : IVec S4096x16 32 := (fun x y u v j => (Host.argReduce reducer_argmin_f32_i32 x y u v reducesTo_S4096x16x256_S4096x16_d2 h_S_ j).2) arg0 v0 cst c
  v1_1

def fn_part2 {F : FTy → Type} [FloatOps F] (main_v2 : IVec S4096x512 1) (main_v5 : IVec S16x256x32 1) (main_v8 : IVec S512x2048 1) (main_v11 : IVec S2048x100 1) (main_v13 : IVec S2048 1) (main_v15 : IVec S100 1) (main_v20 : IVec S4096 1) (main_v35 : FVec F S4096x16x256 .f32) (main_v36 : IVec S4096x16 32) : IVec S4096x512 1 × IVec S16x256x32 1 × IVec S512x2048 1 × IVec S2048x100 1 × IVec S2048 1 × IVec S100 1 × IVec S4096 1 × IVec S4096x16x256 1 :=
  let main_v37 : IVec S4096x16x1 32 := broadcastInDim S4096x16x1 ![0, 1] bcast_S4096x16_S4096x16x1_0_1 main_v36
  let main_v38 : IVec S4096x16x256 32 := iotaInDim S4096x16x256 32 2
  let main_v39 : IVec S4096x16x256 32 := broadcastInDim S4096x16x256 ![0, 1, 2] bcast_S4096x16x1_S4096x16x256_0_1_2 main_v37
  let main_v40 : IVec S4096x16x256 1 := cmpi .eq main_v39 main_v38
  let main_cst_9 : FVec F S_ .f32 := constant S_ .f32 0x7F800000#32
  let main_v41 : FVec F S4096x16 .f32 := (fun x v => Host.reduce FloatOps.minimumf x v reducesTo_S4096x16x256_S4096x16_d2 h_S_) main_v35 main_cst_9
  let main_v42 : FVec F S4096x16x1 .f32 := broadcastInDim S4096x16x1 ![0, 1] bcast_S4096x16_S4096x16x1_0_1 main_v41
  let main_v43 : FVec F S4096x16x256 .f32 := broadcastInDim S4096x16x256 ![0, 1, 2] bcast_S4096x16x1_S4096x16x256_0_1_2 main_v42
  let main_v44 : IVec S4096x16x256 1 := cmpf .ogt main_v35 main_v43
  let main_v45 : IVec S4096x16x256 1 := ori main_v40 main_v44
  (main_v2, main_v5, main_v8, main_v11, main_v13, main_v15, main_v20, main_v45)

def fn_part1 {F : FTy → Type} [FloatOps F] (main_arg0 : FVec F S4096x512 .f32) (main_arg1 : IVec S4096 32) (main_arg2 : FVec F S16x256x32 .f32) (main_v2 : IVec S4096x512 1) (main_v5 : IVec S16x256x32 1) (main_v8 : IVec S512x2048 1) (main_v11 : IVec S2048x100 1) (main_v13 : IVec S2048 1) (main_v15 : IVec S100 1) (main_v16 : IVec S4096 32) : IVec S4096x512 1 × IVec S16x256x32 1 × IVec S512x2048 1 × IVec S2048x100 1 × IVec S2048 1 × IVec S100 1 × IVec S4096 1 × IVec S4096x16x256 1 :=
  let main_v17 : IVec S4096 1 := cmpi .sge main_arg1 main_v16
  let main_c_5 : IVec S_ 32 := constantI S_ 32 100#32
  let main_v18 : IVec S4096 32 := broadcastInDim S4096 ![] bcast_S_S4096 main_c_5
  let main_v19 : IVec S4096 1 := cmpi .slt main_arg1 main_v18
  let main_v20 : IVec S4096 1 := andi main_v17 main_v19
  let main_v21 : FVec F S4096x16x32 .f32 := shapeCast S4096x16x32 main_arg0 shapeCasts_S4096x512_S4096x16x32
  let main_v22 : FVec F S4096x16x32 .f32 := mulf main_v21 main_v21
  let main_cst_6 : FVec F S_ .f32 := constant S_ .f32 0x00000000#32
  let main_v23 : FVec F S4096x16 .f32 := (fun x v => Host.reduceAdd x v reducesTo_S4096x16x32_S4096x16_d2 h_S_) main_v22 main_cst_6
  let main_v24 : FVec F S4096x16x1 .f32 := broadcastInDim S4096x16x1 ![0, 1] bcast_S4096x16_S4096x16x1_0_1 main_v23
  let main_v25 : FVec F S16x256x32 .f32 := mulf main_arg2 main_arg2
  let main_cst_7 : FVec F S_ .f32 := constant S_ .f32 0x00000000#32
  let main_v26 : FVec F S16x256 .f32 := (fun x v => Host.reduceAdd x v reducesTo_S16x256x32_S16x256_d2 h_S_) main_v25 main_cst_7
  let main_v27 : FVec F S1x16x256 .f32 := broadcastInDim S1x16x256 ![1, 2] bcast_S16x256_S1x16x256_1_2 main_v26
  let main_v28 : FVec F S16x256x4096 .f32 := (fun l r => Host.dotGeneral dot_S16x256x32_S4096x16x32_S16x256x4096_2_2_1_0_0_1 none l r) main_arg2 main_v21
  let main_v29 : FVec F S4096x16x256 .f32 := (transpose S4096x16x256 [2, 0, 1] · transposes_S16x256x4096_S4096x16x256_2_0_1) main_v28
  let main_cst_8 : FVec F S_ .f32 := constant S_ .f32 0x40000000#32
  let main_v30 : FVec F S4096x16x256 .f32 := broadcastInDim S4096x16x256 ![] bcast_S_S4096x16x256 main_cst_8
  let main_v31 : FVec F S4096x16x256 .f32 := mulf main_v30 main_v29
  let main_v32 : FVec F S4096x16x256 .f32 := broadcastInDim S4096x16x256 ![0, 1, 2] bcast_S4096x16x1_S4096x16x256_0_1_2 main_v24
  let main_v33 : FVec F S4096x16x256 .f32 := subf main_v32 main_v31
  let main_v34 : FVec F S4096x16x256 .f32 := broadcastInDim S4096x16x256 ![0, 1, 2] bcast_S1x16x256_S4096x16x256_0_1_2 main_v27
  let main_v35 : FVec F S4096x16x256 .f32 := addf main_v33 main_v34
  let main_v36 : IVec S4096x16 32 := fn_argmin (F := F) main_v35
  fn_part2 (F := F) main_v2 main_v5 main_v8 main_v11 main_v13 main_v15 main_v20 main_v35 main_v36

def fn {F : FTy → Type} [FloatOps F] (main_arg0 : FVec F S4096x512 .f32) (main_arg1 : IVec S4096 32) (main_arg2 : FVec F S16x256x32 .f32) (main_arg3 : FVec F S512x2048 .f32) (main_arg4 : FVec F S2048 .f32) (main_arg5 : FVec F S2048x100 .f32) (main_arg6 : FVec F S100 .f32) : IVec S4096x512 1 × IVec S16x256x32 1 × IVec S512x2048 1 × IVec S2048x100 1 × IVec S2048 1 × IVec S100 1 × IVec S4096 1 × IVec S4096x16x256 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S16x256x32 .f32 := Host.absf main_arg2
  let main_cst_0 : FVec F S_ .f32 := constant S_ .f32 0x7F800000#32
  let main_v4 : FVec F S16x256x32 .f32 := broadcastInDim S16x256x32 ![] bcast_S_S16x256x32 main_cst_0
  let main_v5 : IVec S16x256x32 1 := cmpf .olt main_v3 main_v4
  let main_v6 : FVec F S512x2048 .f32 := Host.absf main_arg3
  let main_cst_1 : FVec F S_ .f32 := constant S_ .f32 0x7F800000#32
  let main_v7 : FVec F S512x2048 .f32 := broadcastInDim S512x2048 ![] bcast_S_S512x2048 main_cst_1
  let main_v8 : IVec S512x2048 1 := cmpf .olt main_v6 main_v7
  let main_v9 : FVec F S2048x100 .f32 := Host.absf main_arg5
  let main_cst_2 : FVec F S_ .f32 := constant S_ .f32 0x7F800000#32
  let main_v10 : FVec F S2048x100 .f32 := broadcastInDim S2048x100 ![] bcast_S_S2048x100 main_cst_2
  let main_v11 : IVec S2048x100 1 := cmpf .olt main_v9 main_v10
  let main_cst_3 : FVec F S_ .f32 := constant S_ .f32 0x00000000#32
  let main_v12 : FVec F S2048 .f32 := broadcastInDim S2048 ![] bcast_S_S2048 main_cst_3
  let main_v13 : IVec S2048 1 := cmpf .oeq main_arg4 main_v12
  let main_cst_4 : FVec F S_ .f32 := constant S_ .f32 0x00000000#32
  let main_v14 : FVec F S100 .f32 := broadcastInDim S100 ![] bcast_S_S100 main_cst_4
  let main_v15 : IVec S100 1 := cmpf .oeq main_arg6 main_v14
  let main_c : IVec S_ 32 := constantI S_ 32 0#32
  let main_v16 : IVec S4096 32 := broadcastInDim S4096 ![] bcast_S_S4096 main_c
  fn_part1 (F := F) main_arg0 main_arg1 main_arg2 main_v2 main_v5 main_v8 main_v11 main_v13 main_v15 main_v16
-- ==== Kernel.lean ====
abbrev S4096x512 : Shape := ⟨2, ![4096, 512]⟩
abbrev S4096 : Shape := ⟨1, ![4096]⟩
abbrev S16x256x32 : Shape := ⟨3, ![16, 256, 32]⟩
abbrev S512x2048 : Shape := ⟨2, ![512, 2048]⟩
abbrev S2048 : Shape := ⟨1, ![2048]⟩
abbrev S2048x100 : Shape := ⟨2, ![2048, 100]⟩
abbrev S100 : Shape := ⟨1, ![100]⟩
abbrev S4096x32 : Shape := ⟨2, ![4096, 32]⟩
abbrev S1x4096 : Shape := ⟨2, ![1, 4096]⟩
abbrev S4096x100 : Shape := ⟨2, ![4096, 100]⟩
abbrev S512x512 : Shape := ⟨2, ![512, 512]⟩
abbrev S512x100 : Shape := ⟨2, ![512, 100]⟩
abbrev S512x256 : Shape := ⟨2, ![512, 256]⟩
abbrev S4096x128 : Shape := ⟨2, ![4096, 128]⟩
abbrev S256x32 : Shape := ⟨2, ![256, 32]⟩
abbrev S32x256 : Shape := ⟨2, ![32, 256]⟩
abbrev S256 : Shape := ⟨1, ![256]⟩
abbrev S1x256 : Shape := ⟨2, ![1, 256]⟩
abbrev S512x32 : Shape := ⟨2, ![512, 32]⟩
abbrev S512 : Shape := ⟨1, ![512]⟩
abbrev S512x1 : Shape := ⟨2, ![512, 1]⟩
abbrev S512x4096 : Shape := ⟨2, ![512, 4096]⟩
abbrev S512x1024 : Shape := ⟨2, ![512, 1024]⟩
abbrev S1024x128 : Shape := ⟨2, ![1024, 128]⟩
abbrev S512x128 : Shape := ⟨2, ![512, 128]⟩
abbrev S1x512 : Shape := ⟨2, ![1, 512]⟩

abbrev nBuf : Space → Nat
  | .hbm => 11
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S16x256x32, .f32⟩
  | .hbm, ⟨3, _⟩ => ⟨S512x2048, .f32⟩
  | .hbm, ⟨4, _⟩ => ⟨S2048, .f32⟩
  | .hbm, ⟨5, _⟩ => ⟨S2048x100, .f32⟩
  | .hbm, ⟨6, _⟩ => ⟨S100, .f32⟩
  | .hbm, ⟨7, _⟩ => ⟨S4096x32, .f32⟩
  | .hbm, ⟨8, _⟩ => ⟨S1x4096, .i32⟩
  | .hbm, ⟨9, _⟩ => ⟨S4096x100, .f32⟩
  | .hbm, ⟨10, _⟩ => ⟨S1x4096, .f32⟩
  | .local _ .vmem, ⟨0, _⟩ => ⟨S512x512, .f32⟩
  | .local _ .vmem, ⟨1, _⟩ => ⟨S512x512, .f32⟩
  | .local _ .vmem, ⟨2, _⟩ => ⟨S1x4096, .i32⟩
  | .local _ .vmem, ⟨3, _⟩ => ⟨S4096x32, .f32⟩
  | .local _ .vmem, ⟨4, _⟩ => ⟨S512x2048, .f32⟩
  | .local _ .vmem, ⟨5, _⟩ => ⟨S2048x100, .f32⟩
  | .local _ .vmem, ⟨6, _⟩ => ⟨S512x100, .f32⟩
  | .local _ .vmem, ⟨7, _⟩ => ⟨S512x100, .f32⟩
  | .local _ .vmem, ⟨8, _⟩ => ⟨S1x4096, .f32⟩
  | .local _ .vmem, ⟨9, _⟩ => ⟨S512x256, .f32⟩
  | .local _ .vmem, ⟨10, _⟩ => ⟨S1x4096, .f32⟩
  | .local _ .vmem, ⟨11, _⟩ => ⟨S4096x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_134 : Index := 0#32
  let arg0 : BitVec 32 := BitVec.ofNat 32 (i 0).val
  let c512_i32 : BitVec 32 := 512#32
  let v259 : BitVec 32 := Scalar.muli arg0 c512_i32
  let v260 : Index := Scalar.indexCast v259
  ![0, v260.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x512 : Shape := ⟨2, ![4096, 512]⟩
abbrev S4096 : Shape := ⟨1, ![4096]⟩
abbrev S16x256x32 : Shape := ⟨3, ![16, 256, 32]⟩
abbrev S512x2048 : Shape := ⟨2, ![512, 2048]⟩
abbrev S2048 : Shape := ⟨1, ![2048]⟩
abbrev S2048x100 : Shape := ⟨2, ![2048, 100]⟩
abbrev S100 : Shape := ⟨1, ![100]⟩
abbrev S4096x16x32 : Shape := ⟨3, ![4096, 16, 32]⟩
abbrev S_ : Shape := ⟨0, ![]⟩
abbrev S4096x16 : Shape := ⟨2, ![4096, 16]⟩
abbrev S4096x16x1 : Shape := ⟨3, ![4096, 16, 1]⟩
abbrev S16x256 : Shape := ⟨2, ![16, 256]⟩
abbrev S1x16x256 : Shape := ⟨3, ![1, 16, 256]⟩
abbrev S16x256x4096 : Shape := ⟨3, ![16, 256, 4096]⟩
abbrev S4096x16x256 : Shape := ⟨3, ![4096, 16, 256]⟩
abbrev S16 : Shape := ⟨1, ![16]⟩
abbrev S1x16 : Shape := ⟨2, ![1, 16]⟩
abbrev S4096x16x2 : Shape := ⟨3, ![4096, 16, 2]⟩
abbrev S4096x2048 : Shape := ⟨2, ![4096, 2048]⟩
abbrev S1x2048 : Shape := ⟨2, ![1, 2048]⟩
abbrev S4096x100 : Shape := ⟨2, ![4096, 100]⟩
abbrev S1x100 : Shape := ⟨2, ![1, 100]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S1x4096 : Shape := ⟨2, ![1, 4096]⟩

abbrev nBuf : Space → Nat
  | .hbm => 104
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S16x256x32, .f32⟩
  | .hbm, ⟨3, _⟩ => ⟨S512x2048, .f32⟩
  | .hbm, ⟨4, _⟩ => ⟨S2048, .f32⟩
  | .hbm, ⟨5, _⟩ => ⟨S2048x100, .f32⟩
  | .hbm, ⟨6, _⟩ => ⟨S100, .f32⟩
  | .hbm, ⟨7, _⟩ => ⟨S4096x16x32, .f32⟩
  | .hbm, ⟨8, _⟩ => ⟨S4096x16x32, .f32⟩
  | .hbm, ⟨9, _⟩ => ⟨S_, .f32⟩
  | .hbm, ⟨10, _⟩ => ⟨S4096x16, .f32⟩
  | .hbm, ⟨11, _⟩ => ⟨S4096x16x1, .f32⟩
  | .hbm, ⟨12, _⟩ => ⟨S16x256x32, .f32⟩
  | .hbm, ⟨13, _⟩ => ⟨S_, .f32⟩
  | .hbm, ⟨14, _⟩ => ⟨S16x256, .f32⟩
  | .hbm, ⟨15, _⟩ => ⟨S1x16x256, .f32⟩
  | .hbm, ⟨16, _⟩ => ⟨S16x256x4096, .f32⟩
  | .hbm, ⟨17, _⟩ => ⟨S4096x16x256, .f32⟩
  | .hbm, ⟨18, _⟩ => ⟨S_, .f32⟩
  | .hbm, ⟨19, _⟩ => ⟨S4096x16x256, .f32⟩
  | .hbm, ⟨20, _⟩ => ⟨S4096x16x256, .f32⟩
  | .hbm, ⟨21, _⟩ => ⟨S4096x16x256, .f32⟩
  | .hbm, ⟨22, _⟩ => ⟨S4096x16x256, .f32⟩
  | .hbm, ⟨23, _⟩ => ⟨S4096x16x256, .f32⟩
  | .hbm, ⟨24, _⟩ => ⟨S4096x16x256, .f32⟩
  | .hbm, ⟨25, _⟩ => ⟨S4096x16x256, .i32⟩
  | .hbm, ⟨26, _⟩ => ⟨S_, .f32⟩
  | .hbm, ⟨27, _⟩ => ⟨S_, .i32⟩
  | .hbm, ⟨28, _⟩ => ⟨S4096x16, .f32⟩
  | .hbm, ⟨29, _⟩ => ⟨S4096x16, .i32⟩
  | .hbm, ⟨30, _⟩ => ⟨S16, .i32⟩
  | .hbm, ⟨31, _⟩ => ⟨S1x16, .i32⟩
  | .hbm, ⟨32, _⟩ => ⟨S_, .i32⟩
  | .hbm, ⟨33, _⟩ => ⟨S1x16, .i32⟩
  | .hbm, ⟨34, _⟩ => ⟨S1x16, .i1⟩
  | .hbm, ⟨35, _⟩ => ⟨S_, .i32⟩
  | .hbm, ⟨36, _⟩ => ⟨S1x16, .i32⟩
  | .hbm, ⟨37, _⟩ => ⟨S1x16, .i32⟩
  | .hbm, ⟨38, _⟩ => ⟨S1x16, .i32⟩
  | .hbm, ⟨39, _⟩ => ⟨S_, .i32⟩
  | .hbm, ⟨40, _⟩ => ⟨S4096x16, .i32⟩
  | .hbm, ⟨41, _⟩ => ⟨S4096x16, .i1⟩
  | .hbm, ⟨42, _⟩ => ⟨S_, .i32⟩
  | .hbm, ⟨43, _⟩ => ⟨S4096x16, .i32⟩
  | .hbm, ⟨44, _⟩ => ⟨S4096x16, .i32⟩
  | .hbm, ⟨45, _⟩ => ⟨S4096x16, .i32⟩
  | .hbm, ⟨46, _⟩ => ⟨S4096x16, .i32⟩
  | .hbm, ⟨47, _⟩ => ⟨S4096x16x1, .i32⟩
  | .hbm, ⟨48, _⟩ => ⟨S4096x16x1, .i32⟩
  | .hbm, ⟨49, _⟩ => ⟨S4096x16x2, .i32⟩
  | .hbm, ⟨50, _⟩ => ⟨S4096x16x32, .f32⟩
  | .hbm, ⟨51, _⟩ => ⟨S4096x512, .f32⟩
  | .hbm, ⟨52, _⟩ => ⟨S4096x2048, .f32⟩
  | .hbm, ⟨53, _⟩ => ⟨S1x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096x2048, .f32⟩
  | .hbm, ⟨58, _⟩ => ⟨S4096x2048, .f32⟩
  | .hbm, ⟨59, _⟩ => ⟨S4096x100, .f32⟩
  | .hbm, ⟨60, _⟩ => ⟨S1x100, .f32⟩
  | .hbm, ⟨61, _⟩ => ⟨S4096x100, .f32⟩
  | .hbm, ⟨62, _⟩ => ⟨S4096x100, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1, .f32⟩
  | .hbm, ⟨69, _⟩ => ⟨S4096x100, .f32⟩
  | .hbm, ⟨70, _⟩ => ⟨S4096x100, .f32⟩
  | .hbm, ⟨71, _⟩ => ⟨S4096x100, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1, .f32⟩
  | .hbm, ⟨76, _⟩ => ⟨S4096x100, .f32⟩
  | .hbm, ⟨77, _⟩ => ⟨S4096x100, .f32⟩
  | .hbm, ⟨78, _⟩ => ⟨S4096x1, .i32⟩
  | .hbm, ⟨79, _⟩ => ⟨S_, .i32⟩
  | .hbm, ⟨80, _⟩ => ⟨S4096x1, .i32⟩
  | .hbm, ⟨81, _⟩ => ⟨S4096x1, .i1⟩
  | .hbm, ⟨82, _⟩ => ⟨S_, .i32⟩
  | .hbm, ⟨83, _⟩ => ⟨S4096x1, .i32⟩
  | .hbm, ⟨84, _⟩ => ⟨S4096x1, .i32⟩
  | .hbm, ⟨85, _⟩ => ⟨S4096x1, .i32⟩
  | .hbm, ⟨86, _⟩ => ⟨S4096x1x1, .i32⟩
  | .hbm, ⟨87, _⟩ => ⟨S1, .i32⟩
  | .hbm, ⟨88, _⟩ => ⟨S_, .i32⟩
  | .hbm, ⟨89, _⟩ => ⟨S4096x1x1, .i32⟩
  | .hbm, ⟨90, _⟩ => ⟨S4096x1x1, .i1⟩
  | .hbm, ⟨91, _⟩ => ⟨S1x1x1, .i32⟩
  | .hbm, ⟨92, _⟩ => ⟨S4096x1x1, .i32⟩
  | .hbm, ⟨93, _⟩ => ⟨S4096x1x1, .i1⟩
  | .hbm, ⟨94, _⟩ => ⟨S4096x1x1, .i1⟩
  | .hbm, ⟨95, _⟩ => ⟨S_, .i1⟩
  | .hbm, ⟨96, _⟩ => ⟨S4096x1, .i1⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S4096, .f32⟩
  | .hbm, ⟨102, _⟩ => ⟨S4096, .f32⟩
  | .hbm, ⟨103, _⟩ => ⟨S1x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call1_cst : Ref sig .tc := ⟨.hbm, 56, rfl⟩
abbrev main_call1_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call2_cst : Ref sig .tc := ⟨.hbm, 63, rfl⟩
abbrev main_call2_v0 : Ref sig .tc := ⟨.hbm, 64, rfl⟩
abbrev main_call2_cst_0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_cst_1 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_v43 : Ref sig .tc := ⟨.hbm, 77, rfl⟩
abbrev main_v44 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_cst : Ref sig .tc := ⟨.hbm, 98, rfl⟩
abbrev main_call3_v14 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩

abbrev nD : Nat := 1
abbrev τ : Topo := Topo.v7x

variable {F : FTy → Type} [FloatOps F]
-- ==== Proof.RefRun.lean ====
/- The reference's run: its host operations in order, and what its two results hold when it is done, as a composition of
   the five steps of the mathematics (distances, nearest codeword, gathering, network, cross entropy). -/
module

public import proofs.«01_k».proof.Proof.Gen.ReferenceIdeal
public import Idealize.ShloMosaic.Lib.StableHlo.Run

@[expose] public section

noncomputable section

namespace Cert.ReferenceIdeal.Steps

open Cert.ReferenceIdeal Cert.ReferenceIdeal.Gen Idealize.ShloMosaic Idealize.ShloMosaic.TcCoe Idealize.SL.Sem
open Idealize.ShloMosaic.StableHlo

variable {F : FTy → Type} [FloatOps F]

/-- Two index columns side by side. -/
def pairUp : (⟨S4096x16x1, .i32⟩ : BufTy).Contents (Elt F) → (⟨S4096x16x1, .i32⟩ : BufTy).Contents (Elt F) →
    (⟨S4096x16x2, .i32⟩ : BufTy).Contents (Elt F) :=
  fun a b => concatenate S4096x16x2 2 [⟨S4096x16x1, a⟩, ⟨S4096x16x1, b⟩] concatenates_S4096x16x1_S4096x16x1_S4096x16x2_d2

/-- The squared distance of each subvector to each codeword. -/
def dist (x : Vec F S4096x512 .f32) (cb : Vec F S16x256x32 .f32) : Vec F S4096x16x256 .f32 :=
  addf
    (subf
      (broadcastInDim S4096x16x256 ![0, 1, 2] bcast_S4096x16x1_S4096x16x256_0_1_2
        (broadcastInDim S4096x16x1 ![0, 1] bcast_S4096x16_S4096x16x1_0_1
          (Host.reduceAdd
            (mulf (shapeCast _ x shapeCasts_S4096x512_S4096x16x32) (shapeCast _ x shapeCasts_S4096x512_S4096x16x32))
            (constant S_ .f32 0x00000000#32) reducesTo_S4096x16x32_S4096x16_d2 h_S_)))
      (mulf (broadcastInDim S4096x16x256 ![] bcast_S_S4096x16x256 (constant S_ .f32 0x40000000#32))
        (transpose S4096x16x256 [2, 0, 1]
          (Host.dotGeneral dot_S16x256x32_S4096x16x32_S16x256x4096_2_2_1_0_0_1 none cb
            (shapeCast _ x shapeCasts_S4096x512_S4096x16x32)) transposes_S16x256x4096_S4096x16x256_2_0_1)))
    (broadcastInDim S4096x16x256 ![0, 1, 2] bcast_S1x16x256_S4096x16x256_0_1_2
      (broadcastInDim S1x16x256 ![1, 2] bcast_S16x256_S1x16x256_1_2
        (Host.reduceAdd (mulf cb cb) (constant S_ .f32 0x00000000#32) reducesTo_S16x256x32_S16x256_d2 h_S_)))

/-- The number of the nearest codeword of each subvector. -/
def nearest (d : Vec F S4096x16x256 .f32) : Vec F S4096x16 .i32 := fun j =>
  (Host.argReduce reducer_argmin_f32_i32 d (iotaInDim S4096x16x256 32 2) (constant S_ .f32 0x7F800000#32)
    (constantI S_ 32 0#32) reducesTo_S4096x16x256_S4096x16_d2 h_S_ j).2

/-- An index below zero counts from the end of an axis of the given length. -/
def wrapBooks (i : Vec F S1x16 .i32) : Vec F S1x16 .i32 :=
  select (cmpi .slt i (broadcastInDim S1x16 ![] bcast_S_S1x16 (constantI S_ 32 0#32)))
    (addi i (broadcastInDim S1x16 ![] bcast_S_S1x16 (constantI S_ 32 16#32))) i

/-- The same for the codewords of one codebook. -/
def wrapWords (i : Vec F S4096x16 .i32) : Vec F S4096x16 .i32 :=
  select (cmpi .slt i (broadcastInDim S4096x16 ![] bcast_S_S4096x16 (constantI S_ 32 0#32)))
    (addi i (broadcastInDim S4096x16 ![] bcast_S_S4096x16 (constantI S_ 32 256#32))) i

/-- The index pairs (codebook, codeword) at which the codebooks are read. -/
def pairs (codes : Vec F S4096x16 .i32) : Vec F S4096x16x2 .i32 :=
  pairUp
    (broadcastInDim S4096x16x1 ![0, 1] bcast_S4096x16_S4096x16x1_0_1
      (broadcastInDim S4096x16 ![0, 1] bcast_S1x16_S4096x16_0_1
        (wrapBooks (F := F) (broadcastInDim S1x16 ![1] bcast_S16_S1x16_1 (iotaInDim S16 32 0)))))
    (broadcastInDim S4096x16x1 ![0, 1] bcast_S4096x16_S4096x16x1_0_1 (wrapWords codes))

/-- The codewords named by the codes, side by side in one row. -/
def recon (cb : Vec F S16x256x32 .f32) (codes : Vec F S4096x16 .i32) : Vec F S4096x512 .f32 :=
  shapeCast _ (Host.gather gather_S16x256x32_S4096x16x2_S4096x16x32_2_01_n_n_01_2_1132 cb (pairs codes))
    shapeCasts_S4096x16x32_S4096x512

/-- The hidden layer. -/
def hidden (r : Vec F S4096x512 .f32) (w1 : Vec F S512x2048 .f32) (b1 : Vec F S2048 .f32) : Vec F S4096x2048 .f32 :=
  maximumf
    (addf (Host.dotGeneral dot_S4096x512_S512x2048_S4096x2048_1_0_0_1_n_n none r w1)
      (broadcastInDim S4096x2048 ![0, 1] bcast_S1x2048_S4096x2048_0_1
        (broadcastInDim S1x2048 ![1] bcast_S2048_S1x2048_1 b1)))
    (broadcastInDim S4096x2048 ![] bcast_S_S4096x2048 (constant S_ .f32 0x00000000#32))

/-- The head. -/
def head (h : Vec F S4096x2048 .f32) (w2 : Vec F S2048x100 .f32) (b2 : Vec F S100 .f32) : Vec F S4096x100 .f32 :=
  addf (Host.dotGeneral dot_S4096x2048_S2048x100_S4096x100_1_0_0_1_n_n none h w2)
    (broadcastInDim S4096x100 ![0, 1] bcast_S1x100_S4096x100_0_1 (broadcastInDim S1x100 ![1] bcast_S100_S1x100_1 b2))

/-- The logits less the largest of their row. -/
def shifted (l : Vec F S4096x100 .f32) : Vec F S4096x100 .f32 :=
  subf l
    (broadcastInDim S4096x100 ![0, 1] bcast_S4096x1_S4096x100_0_1
      (broadcastInDim S4096x1 ![0] bcast_S4096_S4096x1_0
        (maximumf (broadcastInDim S4096 ![] bcast_S_S4096 (constant S_ .f32 0xFF800000#32))
          (Host.reduce FloatOps.maximumf l (constant S_ .f32 0xFF800000#32) reducesTo_S4096x100_S4096_d1 h_S_))))

/-- The logarithm of the softmax, from the shifted logits. -/
def logp (s : Vec F S4096x100 .f32) : Vec F S4096x100 .f32 :=
  subf s
    (broadcastInDim S4096x100 ![0, 1] bcast_S4096x1_S4096x100_0_1
      (Host.log
        (broadcastInDim S4096x1 ![0] bcast_S4096_S4096x1_0
          (Host.reduceAdd (Host.exp s) (constant S_ .f32 0x00000000#32) reducesTo_S4096x100_S4096_d1 h_S_))))

/-- The labels as indices into a row of 100. -/
def labelIdx (y : Vec F S4096 .i32) : Vec F S4096x1x1 .i32 :=
  shapeCast _
    (select
      (cmpi .slt (broadcastInDim S4096x1 ![0] bcast_S4096_S4096x1_0 y)
        (broadcastInDim S4096x1 ![] bcast_S_S4096x1 (constantI S_ 32 0#32)))
      (addi (broadcastInDim S4096x1 ![0] bcast_S4096_S4096x1_0 y)
        (broadcastInDim S4096x1 ![] bcast_S_S4096x1 (constantI S_ 32 100#32)))
      (broadcastInDim S4096x1 ![0] bcast_S4096_S4096x1_0 y))
    shapeCasts_S4096x1_S4096x1x1

/-- Whether an index lies in the row. -/
def inRow (i : Vec F S4096x1x1 .i32) : Vec F S4096x1 .i1 :=
  Host.reduce IntOp.andi
    (andi (cmpi .sge i (broadcastInDim S4096x1x1 ![] bcast_S_S4096x1x1 (constantI S_ 32 0#32)))
      (cmpi .sle i
        (broadcastInDim S4096x1x1 ![0, 1, 2] bcast_S1x1x1_S4096x1x1_0_1_2
          (broadcastInDim S1x1x1 ![2] bcast_S1_S1x1x1_2 (constantI S1 32 99#32)))))
    (constantI S_ 1 1#1) reducesTo_S4096x1x1_S4096x1_d2 h_S_

/-- The entry of each row at the row's label. -/
def taken (lp : Vec F S4096x100 .f32) (i : Vec F S4096x1x1 .i32) : Vec F S4096x1 .f32 :=
  select (inRow i) (Host.gather gather_S4096x100_S4096x1x1_S4096x1_n_1_0_0_1_2_11 lp i)
    (broadcastInDim S4096x1 ![] bcast_S_S4096x1 (constant S_ .f32 0x7FC00000#32))

/-- The loss of every row, as one row. -/
def lossOf (lp : Vec F S4096x100 .f32) (y : Vec F S4096 .i32) : Vec F S1x4096 .f32 :=
  shapeCast _ (Host.negf (shapeCast _ (taken lp (labelIdx y)) shapeCasts_S4096x1_S4096)) shapeCasts_S4096_S1x4096

/-- The first result of the arguments. -/
def logitsOf (x : Vec F S4096x512 .f32) (cb : Vec F S16x256x32 .f32) (w1 : Vec F S512x2048 .f32) (b1 : Vec F S2048 .f32)
    (w2 : Vec F S2048x100 .f32) (b2 : Vec F S100 .f32) : Vec F S4096x100 .f32 :=
  head (hidden (recon cb (nearest (dist x cb))) w1 b1) w2 b2

/-- The host operations, in order; the operations of a called function stand in the call's place. -/
abbrev ops : List (HloOp τ sig (Elt F)) :=
  [ reshape main_arg0 main_v0 (rfl : (.f32 : EltTy) = .f32) shapeCasts_S4096x512_S4096x16x32,
    binary main_v0 main_v0 main_v1 (mulf : (⟨S4096x16x32, .f32⟩ : BufTy).Contents (Elt F) → (⟨S4096x16x32, .f32⟩ : BufTy).Contents (Elt F) → (⟨S4096x16x32, .f32⟩ : BufTy).Contents (Elt F)),
    nullary main_cst (constant S_ .f32 0x00000000#32),
    binary main_v1 main_cst main_v2 ((fun x v => Host.reduceAdd x v reducesTo_S4096x16x32_S4096x16_d2 h_S_) : (⟨S4096x16x32, .f32⟩ : BufTy).Contents (Elt F) → (⟨S_, .f32⟩ : BufTy).Contents (Elt F) → (⟨S4096x16, .f32⟩ : BufTy).Contents (Elt F)),
    unary main_v2 main_v3 (broadcastInDim S4096x16x1 ![0, 1] bcast_S4096x16_S4096x16x1_0_1 : (⟨S4096x16, .f32⟩ : BufTy).Contents (Elt F) → (⟨S4096x16x1, .f32⟩ : BufTy).Contents (Elt F)),
    binary main_arg2 main_arg2 main_v4 (mulf : (⟨S16x256x32, .f32⟩ : BufTy).Contents (Elt F) → (⟨S16x256x32, .f32⟩ : BufTy).Contents (Elt F) → (⟨S16x256x32, .f32⟩ : BufTy).Contents (Elt F)),
    nullary main_cst_0 (constant S_ .f32 0x00000000#32),
    binary main_v4 main_cst_0 main_v5 ((fun x v => Host.reduceAdd x v reducesTo_S16x256x32_S16x256_d2 h_S_) : (⟨S16x256x32, .f32⟩ : BufTy).Contents (Elt F) → (⟨S_, .f32⟩ : BufTy).Contents (Elt F) → (⟨S16x256, .f32⟩ : BufTy).Contents (Elt F)),
    unary main_v5 main_v6 (broadcastInDim S1x16x256 ![1, 2] bcast_S16x256_S1x16x256_1_2 : (⟨S16x256, .f32⟩ : BufTy).Contents (Elt F) → (⟨S1x16x256, .f32⟩ : BufTy).Contents (Elt F)),
    binary main_arg2 main_v0 main_v7 ((fun l r => Host.dotGeneral dot_S16x256x32_S4096x16x32_S16x256x4096_2_2_1_0_0_1 none l r) : (⟨S16x256x32, .f32⟩ : BufTy).Contents (Elt F) → (⟨S4096x16x32, .f32⟩ : BufTy).Contents (Elt F) → (⟨S16x256x4096, .f32⟩ : BufTy).Contents (Elt F)),
    unary main_v7 main_v8 ((transpose S4096x16x256 [2, 0, 1] · transposes_S16x256x4096_S4096x16x256_2_0_1) : (⟨S16x256x4096, .f32⟩ : BufTy).Contents (Elt F) → (⟨S4096x16x256, .f32⟩ : BufTy).Contents (Elt F)),
    nullary main_cst_1 (constant S_ .f32 0x40000000#32),
    unary main_cst_1 main_v9 (broadcastInDim S4096x16x256 ![] bcast_S_S4096x16x256 : (⟨S_, .f32⟩ : BufTy).Contents (Elt F) → (⟨S4096x16x256, .f32⟩ : BufTy).Contents (Elt F)),
    binary main_v9 main_v8 main_v10 (mulf : (⟨S4096x16x256, .f32⟩ : BufTy).Contents (Elt F) → (⟨S4096x16x256, .f32⟩ : BufTy).Contents (Elt F) → (⟨S4096x16x256, .f32⟩ : BufTy).Contents (Elt F)),
    unary main_v3 main_v11 (broadcastInDim S4096x16x256 ![0, 1, 2] bcast_S4096x16x1_S4096x16x256_0_1_2 : (⟨S4096x16x1, .f32⟩ : BufTy).Contents (Elt F) → (⟨S4096x16x256, .f32⟩ : BufTy).Contents (Elt F)),
    binary main_v11 main_v10 main_v12 (subf : (⟨S4096x16x256, .f32⟩ : BufTy).Contents (Elt F) → (⟨S4096x16x256, .f32⟩ : BufTy).Contents (Elt F) → (⟨S4096x16x256, .f32⟩ : BufTy).Contents (Elt F)),
    unary main_v6 main_v13 (broadcastInDim S4096x16x256 ![0, 1, 2] bcast_S1x16x256_S4096x16x256_0_1_2 : (⟨S1x16x256, .f32⟩ : BufTy).Contents (Elt F) → (⟨S4096x16x256, .f32⟩ : BufTy).Contents (Elt F)),
    binary main_v12 main_v13 main_v14 (addf : (⟨S4096x16x256, .f32⟩ : BufTy).Contents (Elt F) → (⟨S4096x16x256, .f32⟩ : BufTy).Contents (Elt F) → (⟨S4096x16x256, .f32⟩ : BufTy).Contents (Elt F)),
    TRef.nullary (TRef.of (T := ⟨S4096x16x256, .i32⟩) main_call0_v0) (iotaInDim S4096x16x256 32 2),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S4096x16x256, .f32⟩) main_v14) (TRef.of (T := ⟨S4096x16x256, .i32⟩) main_call0_v0) (TRef.of (T := ⟨S_, .f32⟩) main_call0_cst) (TRef.of (T := ⟨S_, .i32⟩) main_call0_c) (TRef.of (T := ⟨S4096x16, .f32⟩) main_call0_v1_0) (fun x y u v j => (Host.argReduce reducer_argmin_f32_i32 x y u v reducesTo_S4096x16x256_S4096x16_d2 h_S_ j).1),
    TRef.quaternary (TRef.of (T := ⟨S4096x16x256, .f32⟩) main_v14) (TRef.of (T := ⟨S4096x16x256, .i32⟩) main_call0_v0) (TRef.of (T := ⟨S_, .f32⟩) main_call0_cst) (TRef.of (T := ⟨S_, .i32⟩) main_call0_c) (TRef.of (T := ⟨S4096x16, .i32⟩) main_v15) (fun x y u v j => (Host.argReduce reducer_argmin_f32_i32 x y u v reducesTo_S4096x16x256_S4096x16_d2 h_S_ j).2),
    nullary main_v16 (iotaInDim S16 32 0),
    unary main_v16 main_v17 (broadcastInDim S1x16 ![1] bcast_S16_S1x16_1 : (⟨S16, .i32⟩ : BufTy).Contents (Elt F) → (⟨S1x16, .i32⟩ : BufTy).Contents (Elt F)),
    nullary main_c (constantI S_ 32 0#32),
    unary main_c main_v18 (broadcastInDim S1x16 ![] bcast_S_S1x16 : (⟨S_, .i32⟩ : BufTy).Contents (Elt F) → (⟨S1x16, .i32⟩ : BufTy).Contents (Elt F)),
    binary main_v17 main_v18 main_v19 (cmpi .slt : (⟨S1x16, .i32⟩ : BufTy).Contents (Elt F) → (⟨S1x16, .i32⟩ : BufTy).Contents (Elt F) → (⟨S1x16, .i1⟩ : BufTy).Contents (Elt F)),
    nullary main_c_2 (constantI S_ 32 16#32),
    unary main_c_2 main_v20 (broadcastInDim S1x16 ![] bcast_S_S1x16 : (⟨S_, .i32⟩ : BufTy).Contents (Elt F) → (⟨S1x16, .i32⟩ : BufTy).Contents (Elt F)),
    binary main_v17 main_v20 main_v21 (addi : (⟨S1x16, .i32⟩ : BufTy).Contents (Elt F) → (⟨S1x16, .i32⟩ : BufTy).Contents (Elt F) → (⟨S1x16, .i32⟩ : BufTy).Contents (Elt F)),
    ternary main_v19 main_v21 main_v17 main_v22 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    nullary main_c_3 (constantI S_ 32 0#32),
    unary main_c_3 main_v23 (broadcastInDim S4096x16 ![] bcast_S_S4096x16 : (⟨S_, .i32⟩ : BufTy).Contents (Elt F) → (⟨S4096x16, .i32⟩ : BufTy).Contents (Elt F)),
    binary main_v15 main_v23 main_v24 (cmpi .slt : (⟨S4096x16, .i32⟩ : BufTy).Contents (Elt F) → (⟨S4096x16, .i32⟩ : BufTy).Contents (Elt F) → (⟨S4096x16, .i1⟩ : BufTy).Contents (Elt F)),
    nullary main_c_4 (constantI S_ 32 256#32),
    unary main_c_4 main_v25 (broadcastInDim S4096x16 ![] bcast_S_S4096x16 : (⟨S_, .i32⟩ : BufTy).Contents (Elt F) → (⟨S4096x16, .i32⟩ : BufTy).Contents (Elt F)),
    binary main_v15 main_v25 main_v26 (addi : (⟨S4096x16, .i32⟩ : BufTy).Contents (Elt F) → (⟨S4096x16, .i32⟩ : BufTy).Contents (Elt F) → (⟨S4096x16, .i32⟩ : BufTy).Contents (Elt F)),
    ternary main_v24 main_v26 main_v15 main_v27 (select : (⟨S4096x16, .i1⟩ : BufTy).Contents (Elt F) → (⟨S4096x16, .i32⟩ : BufTy).Contents (Elt F) → (⟨S4096x16, .i32⟩ : BufTy).Contents (Elt F) → (⟨S4096x16, .i32⟩ : BufTy).Contents (Elt F)),
    unary main_v22 main_v28 (broadcastInDim S4096x16 ![0, 1] bcast_S1x16_S4096x16_0_1 : (⟨S1x16, .i32⟩ : BufTy).Contents (Elt F) → (⟨S4096x16, .i32⟩ : BufTy).Contents (Elt F)),
    unary main_v28 main_v29 (broadcastInDim S4096x16x1 ![0, 1] bcast_S4096x16_S4096x16x1_0_1 : (⟨S4096x16, .i32⟩ : BufTy).Contents (Elt F) → (⟨S4096x16x1, .i32⟩ : BufTy).Contents (Elt F)),
    unary main_v27 main_v30 (broadcastInDim S4096x16x1 ![0, 1] bcast_S4096x16_S4096x16x1_0_1 : (⟨S4096x16, .i32⟩ : BufTy).Contents (Elt F) → (⟨S4096x16x1, .i32⟩ : BufTy).Contents (Elt F)),
    binary main_v29 main_v30 main_v31 (pairUp (F := F)),
    binary main_arg2 main_v31 main_v32 ((fun x i => Host.gather gather_S16x256x32_S4096x16x2_S4096x16x32_2_01_n_n_01_2_1132 x i) : (⟨S16x256x32, .f32⟩ : BufTy).Contents (Elt F) → (⟨S4096x16x2, .i32⟩ : BufTy).Contents (Elt F) → (⟨S4096x16x32, .f32⟩ : BufTy).Contents (Elt F)),
    reshape main_v32 main_v33 (rfl : (.f32 : EltTy) = .f32) shapeCasts_S4096x16x32_S4096x512,
    binary main_v33 main_arg3 main_v34 ((fun l r => Host.dotGeneral dot_S4096x512_S512x2048_S4096x2048_1_0_0_1_n_n none l r) : (⟨S4096x512, .f32⟩ : BufTy).Contents (Elt F) → (⟨S512x2048, .f32⟩ : BufTy).Contents (Elt F) → (⟨S4096x2048, .f32⟩ : BufTy).Contents (Elt F)),
    unary main_arg4 main_v35 (broadcastInDim S1x2048 ![1] bcast_S2048_S1x2048_1 : (⟨S2048, .f32⟩ : BufTy).Contents (Elt F) → (⟨S1x2048, .f32⟩ : BufTy).Contents (Elt F)),
    unary main_v35 main_v36 (broadcastInDim S4096x2048 ![0, 1] bcast_S1x2048_S4096x2048_0_1 : (⟨S1x2048, .f32⟩ : BufTy).Contents (Elt F) → (⟨S4096x2048, .f32⟩ : BufTy).Contents (Elt F)),
    binary main_v34 main_v36 main_v37 (addf : (⟨S4096x2048, .f32⟩ : BufTy).Contents (Elt F) → (⟨S4096x2048, .f32⟩ : BufTy).Contents (Elt F) → (⟨S4096x2048, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x2048, .f32⟩) main_call1_v0) (broadcastInDim S4096x2048 ![] bcast_S_S4096x2048),
    TRef.binary (TRef.of (T := ⟨S4096x2048, .f32⟩) main_v37) (TRef.of (T := ⟨S4096x2048, .f32⟩) main_call1_v0) (TRef.of (T := ⟨S4096x2048, .f32⟩) main_v38) maximumf,
    binary main_v38 main_arg5 main_v39 ((fun l r => Host.dotGeneral dot_S4096x2048_S2048x100_S4096x100_1_0_0_1_n_n none l r) : (⟨S4096x2048, .f32⟩ : BufTy).Contents (Elt F) → (⟨S2048x100, .f32⟩ : BufTy).Contents (Elt F) → (⟨S4096x100, .f32⟩ : BufTy).Contents (Elt F)),
    unary main_arg6 main_v40 (broadcastInDim S1x100 ![1] bcast_S100_S1x100_1 : (⟨S100, .f32⟩ : BufTy).Contents (Elt F) → (⟨S1x100, .f32⟩ : BufTy).Contents (Elt F)),
    unary main_v40 main_v41 (broadcastInDim S4096x100 ![0, 1] bcast_S1x100_S4096x100_0_1 : (⟨S1x100, .f32⟩ : BufTy).Contents (Elt F) → (⟨S4096x100, .f32⟩ : BufTy).Contents (Elt F)),
    binary main_v39 main_v41 main_v42 (addf : (⟨S4096x100, .f32⟩ : BufTy).Contents (Elt F) → (⟨S4096x100, .f32⟩ : BufTy).Contents (Elt F) → (⟨S4096x100, .f32⟩ : BufTy).Contents (Elt F)),
    TRef.nullary (TRef.of (T := ⟨S_, .f32⟩) main_call2_cst) (constant S_ .f32 0xFF800000#32),
    TRef.binary (TRef.of (T := ⟨S4096x100, .f32⟩) main_v42) (TRef.of (T := ⟨S_, .f32⟩) main_call2_cst) (TRef.of (T := ⟨S4096, .f32⟩) main_call2_v0) (fun x v => Host.reduce FloatOps.maximumf x v reducesTo_S4096x100_S4096_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S4096, .f32⟩) main_call2_v1) (broadcastInDim S4096 ![] bcast_S_S4096),
    TRef.binary (TRef.of (T := ⟨S4096, .f32⟩) main_call2_v1) (TRef.of (T := ⟨S4096, .f32⟩) main_call2_v0) (TRef.of (T := ⟨S4096, .f32⟩) main_call2_v2) maximumf,
    TRef.unary (TRef.of (T := ⟨S4096, .f32⟩) main_call2_v2) (TRef.of (T := ⟨S4096x1, .f32⟩) main_call2_v3) (broadcastInDim S4096x1 ![0] bcast_S4096_S4096x1_0),
    TRef.unary (TRef.of (T := ⟨S4096x1, .f32⟩) main_call2_v3) (TRef.of (T := ⟨S4096x100, .f32⟩) main_call2_v4) (broadcastInDim S4096x100 ![0, 1] bcast_S4096x1_S4096x100_0_1),
    TRef.binary (TRef.of (T := ⟨S4096x100, .f32⟩) main_v42) (TRef.of (T := ⟨S4096x100, .f32⟩) main_call2_v4) (TRef.of (T := ⟨S4096x100, .f32⟩) main_call2_v5) subf,
    TRef.unary (TRef.of (T := ⟨S4096x100, .f32⟩) main_call2_v5) (TRef.of (T := ⟨S4096x100, .f32⟩) main_call2_v6) Host.exp,
    TRef.nullary (TRef.of (T := ⟨S_, .f32⟩) main_call2_cst_1) (constant S_ .f32 0x00000000#32),
    TRef.binary (TRef.of (T := ⟨S4096x100, .f32⟩) main_call2_v6) (TRef.of (T := ⟨S_, .f32⟩) main_call2_cst_1) (TRef.of (T := ⟨S4096, .f32⟩) main_call2_v7) (fun x v => Host.reduceAdd x v reducesTo_S4096x100_S4096_d1 h_S_),
    TRef.unary (TRef.of (T := ⟨S4096, .f32⟩) main_call2_v7) (TRef.of (T := ⟨S4096x1, .f32⟩) main_call2_v8) (broadcastInDim S4096x1 ![0] bcast_S4096_S4096x1_0),
    TRef.unary (TRef.of (T := ⟨S4096x1, .f32⟩) main_call2_v8) (TRef.of (T := ⟨S4096x1, .f32⟩) main_call2_v9) Host.log,
    TRef.unary (TRef.of (T := ⟨S4096x1, .f32⟩) main_call2_v9) (TRef.of (T := ⟨S4096x100, .f32⟩) main_call2_v10) (broadcastInDim S4096x100 ![0, 1] bcast_S4096x1_S4096x100_0_1),
    TRef.binary (TRef.of (T := ⟨S4096x100, .f32⟩) main_call2_v5) (TRef.of (T := ⟨S4096x100, .f32⟩) main_call2_v10) (TRef.of (T := ⟨S4096x100, .f32⟩) main_v43) subf,
    unary main_arg1 main_v44 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S4096x1, .i32⟩) main_call3_v0) (broadcastInDim S4096x1 ![] bcast_S_S4096x1),
    TRef.binary (TRef.of (T := ⟨S4096x1, .i32⟩) main_v44) (TRef.of (T := ⟨S4096x1, .i32⟩) main_call3_v0) (TRef.of (T := ⟨S4096x1, .i1⟩) main_call3_v1) (cmpi .slt),
    TRef.nullary (TRef.of (T := ⟨S_, .i32⟩) main_call3_c_0) (constantI S_ 32 100#32),
    TRef.unary (TRef.of (T := ⟨S_, .i32⟩) main_call3_c_0) (TRef.of (T := ⟨S4096x1, .i32⟩) main_call3_v2) (broadcastInDim S4096x1 ![] bcast_S_S4096x1),
    TRef.binary (TRef.of (T := ⟨S4096x1, .i32⟩) main_v44) (TRef.of (T := ⟨S4096x1, .i32⟩) main_call3_v2) (TRef.of (T := ⟨S4096x1, .i32⟩) main_call3_v3) addi,
    TRef.ternary (TRef.of (T := ⟨S4096x1, .i1⟩) main_call3_v1) (TRef.of (T := ⟨S4096x1, .i32⟩) main_call3_v3) (TRef.of (T := ⟨S4096x1, .i32⟩) main_v44) (TRef.of (T := ⟨S4096x1, .i32⟩) main_call3_v4) select,
    TRef.reshape (TRef.of (T := ⟨S4096x1, .i32⟩) main_call3_v4) (TRef.of (T := ⟨S4096x1x1, .i32⟩) main_call3_v5) (rfl : (.i32 : EltTy) = .i32) shapeCasts_S4096x1_S4096x1x1,
    TRef.nullary (TRef.of (T := ⟨S1, .i32⟩) main_call3_c_1) (constantI S1 32 99#32),
    TRef.nullary (TRef.of (T := ⟨S_, .i32⟩) main_call3_c_2) (constantI S_ 32 0#32),
    TRef.unary (TRef.of (T := ⟨S_, .i32⟩) main_call3_c_2) (TRef.of (T := ⟨S4096x1x1, .i32⟩) main_call3_v6) (broadcastInDim S4096x1x1 ![] bcast_S_S4096x1x1),
    TRef.binary (TRef.of (T := ⟨S4096x1x1, .i32⟩) main_call3_v5) (TRef.of (T := ⟨S4096x1x1, .i32⟩) main_call3_v6) (TRef.of (T := ⟨S4096x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S4096x1x1, .i32⟩) main_call3_v9) (broadcastInDim S4096x1x1 ![0, 1, 2] bcast_S1x1x1_S4096x1x1_0_1_2),
    TRef.binary (TRef.of (T := ⟨S4096x1x1, .i32⟩) main_call3_v5) (TRef.of (T := ⟨S4096x1x1, .i32⟩) main_call3_v9) (TRef.of (T := ⟨S4096x1x1, .i1⟩) main_call3_v10) (cmpi .sle),
    TRef.binary (TRef.of (T := ⟨S4096x1x1, .i1⟩) main_call3_v7) (TRef.of (T := ⟨S4096x1x1, .i1⟩) main_call3_v10) (TRef.of (T := ⟨S4096x1x1, .i1⟩) main_call3_v11) andi,
    TRef.nullary (TRef.of (T := ⟨S_, .i1⟩) main_call3_c_3) (constantI S_ 1 1#1),
    TRef.binary (TRef.of (T := ⟨S4096x1x1, .i1⟩) main_call3_v11) (TRef.of (T := ⟨S_, .i1⟩) main_call3_c_3) (TRef.of (T := ⟨S4096x1, .i1⟩) main_call3_v12) (fun x v => Host.reduce IntOp.andi x v reducesTo_S4096x1x1_S4096x1_d2 h_S_),
    TRef.binary (TRef.of (T := ⟨S4096x100, .f32⟩) main_v43) (TRef.of (T := ⟨S4096x1x1, .i32⟩) main_call3_v5) (TRef.of (T := ⟨S4096x1, .f32⟩) main_call3_v13) (fun x i => Host.gather gather_S4096x100_S4096x1x1_S4096x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S4096x1, .f32⟩) main_call3_v14) (broadcastInDim S4096x1 ![] bcast_S_S4096x1),
    TRef.ternary (TRef.of (T := ⟨S4096x1, .i1⟩) main_call3_v12) (TRef.of (T := ⟨S4096x1, .f32⟩) main_call3_v13) (TRef.of (T := ⟨S4096x1, .f32⟩) main_call3_v14) (TRef.of (T := ⟨S4096x1, .f32⟩) main_v45) select,
    reshape main_v45 main_v46 (rfl : (.f32 : EltTy) = .f32) shapeCasts_S4096x1_S4096,
    unary main_v46 main_v47 (Host.negf : (⟨S4096, .f32⟩ : BufTy).Contents (Elt F) → (⟨S4096, .f32⟩ : BufTy).Contents (Elt F)),
    reshape main_v47 main_v48 (rfl : (.f32 : EltTy) = .f32) shapeCasts_S4096_S1x4096 ]

set_option maxRecDepth 8192 in
set_option maxHeartbeats 4000000 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨reshape_bufs_sub .., binary_bufs_sub .., nullary_bufs_sub .., binary_bufs_sub .., unary_bufs_sub ..,
    binary_bufs_sub .., nullary_bufs_sub .., binary_bufs_sub .., unary_bufs_sub .., binary_bufs_sub ..,
    unary_bufs_sub .., nullary_bufs_sub .., unary_bufs_sub .., binary_bufs_sub .., unary_bufs_sub ..,
    binary_bufs_sub .., unary_bufs_sub .., binary_bufs_sub .., nullary_bufs_sub .., nullary_bufs_sub ..,
    nullary_bufs_sub .., quaternary_bufs_sub .., quaternary_bufs_sub .., nullary_bufs_sub .., unary_bufs_sub ..,
    nullary_bufs_sub .., unary_bufs_sub .., binary_bufs_sub .., nullary_bufs_sub .., unary_bufs_sub ..,
    binary_bufs_sub .., ternary_bufs_sub .., nullary_bufs_sub .., unary_bufs_sub .., binary_bufs_sub ..,
    nullary_bufs_sub .., unary_bufs_sub .., binary_bufs_sub .., ternary_bufs_sub .., unary_bufs_sub ..,
    unary_bufs_sub .., unary_bufs_sub .., binary_bufs_sub .., binary_bufs_sub .., reshape_bufs_sub ..,
    binary_bufs_sub .., unary_bufs_sub .., unary_bufs_sub .., binary_bufs_sub .., nullary_bufs_sub ..,
    unary_bufs_sub .., binary_bufs_sub .., binary_bufs_sub .., unary_bufs_sub .., unary_bufs_sub ..,
    binary_bufs_sub .., nullary_bufs_sub .., binary_bufs_sub .., nullary_bufs_sub .., unary_bufs_sub ..,
    binary_bufs_sub .., unary_bufs_sub .., unary_bufs_sub .., binary_bufs_sub .., unary_bufs_sub ..,
    nullary_bufs_sub .., binary_bufs_sub .., unary_bufs_sub .., unary_bufs_sub .., unary_bufs_sub ..,
    binary_bufs_sub .., unary_bufs_sub .., nullary_bufs_sub .., unary_bufs_sub .., binary_bufs_sub ..,
    nullary_bufs_sub .., unary_bufs_sub .., binary_bufs_sub .., ternary_bufs_sub .., reshape_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., nullary_bufs_sub .., unary_bufs_sub .., ternary_bufs_sub .., reshape_bufs_sub ..,
    unary_bufs_sub .., reshape_bufs_sub ..⟩

set_option maxRecDepth 8192 in
set_option maxHeartbeats 38000000 in
/-- Every execution of the reference ends with its two results at the composition of the steps and the arguments as they
    were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) =
        logitsOf (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v48) =
        lossOf (logp (shifted (logitsOf (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c main_v42).trans (by
        simp only [ops, TRef.binary, TRef.nullary, TRef.reshape, TRef.ternary, TRef.quaternary, TRef.unary, TRef.toBuf, TRef.ofBuf, cast_eq]
        after_results_simp <;> rfl),
      (h c main_v48).trans (by
        simp only [ops, TRef.binary, TRef.nullary, TRef.reshape, TRef.ternary, TRef.quaternary, TRef.unary, TRef.toBuf, TRef.ofBuf, cast_eq]
        after_results_simp <;> rfl),
      (h c main_arg0).trans (by
        simp only [ops, TRef.binary, TRef.nullary, TRef.reshape, TRef.ternary, TRef.quaternary, TRef.unary, TRef.toBuf, TRef.ofBuf, cast_eq]
        after_results_simp <;> rfl),
      (h c main_arg1).trans (by
        simp only [ops, TRef.binary, TRef.nullary, TRef.reshape, TRef.ternary, TRef.quaternary, TRef.unary, TRef.toBuf, TRef.ofBuf, cast_eq]
        after_results_simp <;> rfl),
      (h c main_arg2).trans (by
        simp only [ops, TRef.binary, TRef.nullary, TRef.reshape, TRef.ternary, TRef.quaternary, TRef.unary, TRef.toBuf, TRef.ofBuf, cast_eq]
        after_results_simp <;> rfl),
      (h c main_arg3).trans (by
        simp only [ops, TRef.binary, TRef.nullary, TRef.reshape, TRef.ternary, TRef.quaternary, TRef.unary, TRef.toBuf, TRef.ofBuf, cast_eq]
        after_results_simp <;> rfl),
      (h c main_arg4).trans (by
        simp only [ops, TRef.binary, TRef.nullary, TRef.reshape, TRef.ternary, TRef.quaternary, TRef.unary, TRef.toBuf, TRef.ofBuf, cast_eq]
        after_results_simp <;> rfl),
      (h c main_arg5).trans (by
        simp only [ops, TRef.binary, TRef.nullary, TRef.reshape, TRef.ternary, TRef.quaternary, TRef.unary, TRef.toBuf, TRef.ofBuf, cast_eq]
        after_results_simp <;> rfl),
      (h c main_arg6).trans (by
        simp only [ops, TRef.binary, TRef.nullary, TRef.reshape, TRef.ternary, TRef.quaternary, TRef.unary, TRef.toBuf, TRef.ofBuf, cast_eq]
        after_results_simp <;> rfl)⟩)
    (run_seq scopedRefs_eq scopedSems_eq defs main (fun _ => ops) main_eq (fun _ => ops_sub) m ρ)

end Cert.ReferenceIdeal.Steps

end
-- ==== Proof.Operands.lean ====
/-
  What the first grid point leaves in the kernel's three scratch buffers, as functions of the codebooks
  laid out as 4096 rows of 32 (row 256·m + k is codeword k of codebook m):

  * `cbt`: rows 32·m … 32·m + 31 hold −2 times codebook m, transposed;
  * `csq`: columns 256·m … 256·m + 255 hold a quarter of the squared column sums of those rows;
  * `dec`: row 256·m + k holds codeword k of codebook m in its columns 32·(m mod 4) …, zero elsewhere.

  The `…_piece` lemmas say that one store's payload agrees with the function on the store's rectangle.
-/
module

public import proofs.«01_k».proof.Proof.Gen.KernelIdeal.Frame
public import proofs.«01_k».proof.Proof.Gen.KernelIdeal.Skeleton
public import Idealize.ShloMosaic.Lib.Pointwise
public import Idealize.ShloMosaic.Lib.WritesUnit
public import Idealize.ShloMosaic.Lib.Pipeline.Value

@[expose] public section

noncomputable section

namespace Cert.KernelIdeal

open Idealize.ShloMosaic Idealize.ShloMosaic.Rounds Cert.KernelIdeal.Gen

variable {F : FTy → Type} [FloatOps F]

/-- Codebook `m`'s 256 rows of the 4096. -/
def blk (x : Vec F S4096x32 .f32) (m : Fin 16) : Vec F S256x32 .f32 :=
  fun j => x (ix2 (n0 := 4096) (n1 := 32) ⟨256 * m.val + (j 0).val, by have := (j 0).isLt; change (j 0).val < 256 at this; omega⟩ (j 1))

theorem blk_eq_ld (x : Vec F S4096x32 .f32) (m : Fin 16) {o : ℕ} (ho : o = 256 * m.val)
    (inb : ∀ a, (![o, 0] : Fin 2 → ℕ) a + S256x32.size a ≤ S4096x32.size a) :
    (View.ld x (Rect.unit (s := S4096x32) ![o, 0] S256x32.size inb) : Vec F S256x32 .f32) = blk x m := by
  subst ho
  funext j
  refine congrArg x (funext fun a => Fin.ext ?_)
  fin_cases a
  · show 256 * m.val + 1 * (j 0).val = 256 * m.val + (j 0).val
    omega
  · show 0 + 1 * (j 1).val = (j 1).val
    omega

/-- −2 times every codebook, transposed. -/
def cbt (x : Vec F S4096x32 .f32) : Vec F S512x256 .f32 := fun y =>
  k0_pay3 (blk x ⟨(y 0).val / 32, by have := (y 0).isLt; change (y 0).val < 512 at this; omega⟩)
    (ix2 (n0 := 32) (n1 := 256) ⟨(y 0).val % 32, Nat.mod_lt _ (by decide)⟩ (y 1))

/-- A quarter of the squared column sums of `cbt`, one block of 256 columns per codebook. -/
def csq (x : Vec F S4096x32 .f32) : Vec F S1x4096 .f32 := fun y =>
  k0_pay4 (blk x ⟨(y 1).val / 256, by have := (y 1).isLt; change (y 1).val < 4096 at this; omega⟩)
    (ix2 (n0 := 1) (n1 := 256) 0 ⟨(y 1).val % 256, Nat.mod_lt _ (by decide)⟩)

/-- The codewords, each in its codebook's quarter of the columns, zero elsewhere. -/
def dec (x : Vec F S4096x32 .f32) : Vec F S4096x128 .f32 := fun y =>
  if (y 0).val / 256 % 4 = (y 1).val / 32 then
    x (ix2 (n0 := 4096) (n1 := 32) (y 0) ⟨(y 1).val % 32, Nat.mod_lt _ (by decide)⟩)
  else Scalar.ofBits .f32 0x00000000#32

theorem cbt_piece (x : Vec F S4096x32 .f32) (m : Fin 16) {o o' : ℕ} (ho : o = 256 * m.val) (ho' : o' = 32 * m.val)
    (inb : ∀ a, (![o, 0] : Fin 2 → ℕ) a + S256x32.size a ≤ S4096x32.size a)
    (inb' : ∀ a, (![o', 0] : Fin 2 → ℕ) a + S32x256.size a ≤ S512x256.size a) (j : S32x256.Idx) :
    k0_pay3 (View.ld x (Rect.unit (s := S4096x32) ![o, 0] S256x32.size inb) : Vec F S256x32 .f32) j
      = cbt x ((Rect.unit (s := S512x256) ![o', 0] S32x256.size inb').emb j) := by
  rw [blk_eq_ld x m ho inb]
  subst ho'
  have h0 : (j 0).val < 32 := (j 0).isLt
  have e0 : ((Rect.unit (s := S512x256) ![32 * m.val, 0] S32x256.size inb').emb j 0).val = 32 * m.val + 1 * (j 0).val := rfl
  have e1 : ((Rect.unit (s := S512x256) ![32 * m.val, 0] S32x256.size inb').emb j 1).val = 0 + 1 * (j 1).val := rfl
  unfold cbt
  congr 1
  · congr 1; exact Fin.ext (by show m.val = _ / 32; rw [e0]; omega)
  · refine (ix2_eta (n0 := 32) (n1 := 256) j).symm.trans ?_
    congr 1
    · exact Fin.ext (by show (j 0).val = _ % 32; rw [e0]; omega)
    · exact Fin.ext (by rw [e1]; omega)

theorem csq_piece (x : Vec F S4096x32 .f32) (m : Fin 16) {o o' : ℕ} (ho : o = 256 * m.val) (ho' : o' = 256 * m.val)
    (inb : ∀ a, (![o, 0] : Fin 2 → ℕ) a + S256x32.size a ≤ S4096x32.size a)
    (inb' : ∀ a, (![0, o'] : Fin 2 → ℕ) a + S1x256.size a ≤ S1x4096.size a) (j : S1x256.Idx) :
    k0_pay4 (View.ld x (Rect.unit (s := S4096x32) ![o, 0] S256x32.size inb) : Vec F S256x32 .f32) j
      = csq x ((Rect.unit (s := S1x4096) ![0, o'] S1x256.size inb').emb j) := by
  rw [blk_eq_ld x m ho inb]
  subst ho'
  have h1 : (j 1).val < 256 := (j 1).isLt
  have e1 : ((Rect.unit (s := S1x4096) ![0, 256 * m.val] S1x256.size inb').emb j 1).val = 256 * m.val + 1 * (j 1).val := rfl
  unfold csq
  congr 1
  · congr 1; exact Fin.ext (by show m.val = _ / 256; rw [e1]; omega)
  · refine (ix2_eta (n0 := 1) (n1 := 256) j).symm.trans ?_
    congr 1
    · exact Subsingleton.elim (α := Fin 1) _ _
    · exact Fin.ext (by show (j 1).val = _ % 256; rw [e1]; omega)

theorem dec_piece (x : Vec F S4096x32 .f32) (m : Fin 16) {o o' o'' : ℕ} (ho : o = 256 * m.val) (ho' : o' = 256 * m.val)
    (ho'' : o'' = 32 * (m.val % 4))
    (inb : ∀ a, (![o, 0] : Fin 2 → ℕ) a + S256x32.size a ≤ S4096x32.size a)
    (inb' : ∀ a, (![o', o''] : Fin 2 → ℕ) a + S256x32.size a ≤ S4096x128.size a) (j : S256x32.Idx) :
    k0_pay55 (View.ld x (Rect.unit (s := S4096x32) ![o, 0] S256x32.size inb) : Vec F S256x32 .f32) j
      = dec x ((Rect.unit (s := S4096x128) ![o', o''] S256x32.size inb').emb j) := by
  rw [blk_eq_ld x m ho inb]
  subst ho' ho''
  have h0 : (j 0).val < 256 := (j 0).isLt
  have h1 : (j 1).val < 32 := (j 1).isLt
  have e0 : ((Rect.unit (s := S4096x128) ![256 * m.val, 32 * (m.val % 4)] S256x32.size inb').emb j 0).val = 256 * m.val + 1 * (j 0).val := rfl
  have e1 : ((Rect.unit (s := S4096x128) ![256 * m.val, 32 * (m.val % 4)] S256x32.size inb').emb j 1).val = 32 * (m.val % 4) + 1 * (j 1).val := rfl
  unfold k0_pay55
  dsimp only
  rw [shapeCast_self, shapeCast_self]
  unfold dec blk
  rw [if_pos (by rw [e0, e1]; omega)]
  refine congrArg x ?_
  congr 1
  · exact Fin.ext (by rw [e0]; show 256 * m.val + (j 0).val = _; omega)
  · exact Fin.ext (by show (j 1).val = _ % 32; rw [e1]; omega)

/-- Off every codebook's rectangle `dec` holds the fill. -/
theorem dec_fill (x : Vec F S4096x32 .f32) (y : S4096x128.Idx)
    (h : ∀ m : Fin 16, ¬((256 * m.val ≤ (y 0).val ∧ (y 0).val < 256 * m.val + 256)
      ∧ (32 * (m.val % 4) ≤ (y 1).val ∧ (y 1).val < 32 * (m.val % 4) + 32))) :
    (k0_pay54 (F := F)) y = dec x y := by
  have h0 : (y 0).val < 4096 := (y 0).isLt
  have hm := h ⟨(y 0).val / 256, by omega⟩
  have hne : ¬((y 0).val / 256 % 4 = (y 1).val / 32) := fun he => hm (by
    show (256 * ((y 0).val / 256) ≤ (y 0).val ∧ (y 0).val < 256 * ((y 0).val / 256) + 256)
      ∧ (32 * ((y 0).val / 256 % 4) ≤ (y 1).val ∧ (y 1).val < 32 * ((y 0).val / 256 % 4) + 32)
    omega)
  unfold dec
  rw [if_neg hne]
  unfold k0_pay54
  rw [shapeCast_self]
  rfl

/-- A buffer written at the pieces `P` over one older piece `q`: where every piece of `P` agrees with `G`, and the
    buffer after `q` alone agrees with `G` off those pieces, the buffer reads `G`. -/
theorem read_writes_over {sig : RefSig} {κ : Kind} {sp : Space} {s : Shape} {e : EltTy} {Val : EltTy → Type}
    (v : View sig κ sp s e) (f : v.ty.Contents Val) (G : s.Idx → Val e) (q : View.Piece Val s e) (y : s.Idx) :
    ∀ P : List (View.Piece Val s e), (∀ p ∈ P, ∀ x : p.1.shape.Idx, p.2 x = G (p.1.emb x)) →
      ((∀ p ∈ P, y ∉ p.1.set) → v.read Val (v.writes Val f [q]) y = G y) →
      v.read Val (v.writes Val f (P ++ [q])) y = G y
  | [], _, h => h (by simp)
  | p :: P, hG, h => by
    by_cases hy : y ∈ p.1.set
    · obtain ⟨x, rfl⟩ : ∃ x, p.1.emb x = y := p.1.exists_idx_of_mem hy
      exact (View.read_writes_cons_emb v f p.1 p.2 (P ++ [q]) x).trans (hG p List.mem_cons_self x)
    · rw [List.cons_append, View.writes_cons, View.read_slice_write_of_not_mem p.1 _ _ _ (by rwa [Rect.map_emb_univ])]
      exact read_writes_over v f G q y P (fun r hr => hG r (List.mem_cons_of_mem _ hr))
        fun hn => h fun r hr => by
          rcases List.mem_cons.mp hr with rfl | hr'
          · exact hy
          · exact hn r hr'

end Cert.KernelIdeal

end
-- ==== Proof.BodyValues.lean ====
/-
  What one grid point computes, as functions of its operands' values: the block of logits (`logitsV`) and the
  point's 512 losses (`lossV`), the scratch's contents `s8`, `s9`, `s10` among the operands.
-/
module

public import proofs.«01_k».proof.Proof.Operands

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ (UR sig nD τ) ℕ

/-- Rows 32·m … 32·m + 31 of the 512. -/
def rowsOf (s8 : Vec F S512x256 .f32) (m : Fin 16) : Vec F S32x256 .f32 :=
  fun j => s8 (ix2 (n0 := 512) (n1 := 256) ⟨32 * m.val + (j 0).val, by have := (j 0).isLt; change (j 0).val < 32 at this; omega⟩ (j 1))

/-- Rows 1024·g … 1024·g + 1023 of the 4096. -/
def grpOf (s10 : Vec F S4096x128 .f32) (g : Fin 4) : Vec F S1024x128 .f32 :=
  fun j => s10 (ix2 (n0 := 4096) (n1 := 128) ⟨1024 * g.val + (j 0).val, by have := (j 0).isLt; change (j 0).val < 1024 at this; omega⟩ (j 1))

theorem rowsOf_eq_ld (s8 : Vec F S512x256 .f32) (m : Fin 16) {o : ℕ} (ho : o = 32 * m.val)
    (inb : ∀ a, (![o, 0] : Fin 2 → ℕ) a + S32x256.size a ≤ S512x256.size a) :
    (View.ld s8 (Rect.unit (s := S512x256) ![o, 0] S32x256.size inb) : Vec F S32x256 .f32) = rowsOf s8 m := by
  subst ho
  funext j
  refine congrArg s8 (funext fun a => Fin.ext ?_)
  fin_cases a
  · show 32 * m.val + 1 * (j 0).val = 32 * m.val + (j 0).val
    omega
  · show 0 + 1 * (j 1).val = (j 1).val
    omega

theorem grpOf_eq_ld (s10 : Vec F S4096x128 .f32) (g : Fin 4) {o : ℕ} (ho : o = 1024 * g.val)
    (inb : ∀ a, (![o, 0] : Fin 2 → ℕ) a + S1024x128.size a ≤ S4096x128.size a) :
    (View.ld s10 (Rect.unit (s := S4096x128) ![o, 0] S1024x128.size inb) : Vec F S1024x128 .f32) = grpOf s10 g := by
  subst ho
  funext j
  refine congrArg s10 (funext fun a => Fin.ext ?_)
  fin_cases a
  · show 1024 * g.val + 1 * (j 0).val = 1024 * g.val + (j 0).val
    omega
  · show 0 + 1 * (j 1).val = (j 1).val
    omega

/-- The block of logits: the body's values, from a block of rows, the scratch and the two weights. -/
def logitsV (x : Vec F S512x512 .f32) (s8 : Vec F S512x256 .f32) (s9 : Vec F S1x4096 .f32) (s10 : Vec F S4096x128 .f32) (w1 : Vec F S512x2048 .f32) (w2 : Vec F S2048x100 .f32) : Vec F S512x100 .f32 :=
  k0_pay94 (k0_pay71 x (rowsOf s8 0) s9)
    (k0_pay72 x (rowsOf s8 1) s9)
    (k0_pay74 (k0_pay73 x (rowsOf s8 2)) s9)
    (k0_pay75 x (rowsOf s8 3) s9)
    (k0_pay76 x (rowsOf s8 4) s9)
    (k0_pay77 x (rowsOf s8 5) s9)
    (k0_pay78 x (rowsOf s8 6) s9)
    (k0_pay81 (k0_pay79 x (rowsOf s8 7) s9) (k0_pay80 x (rowsOf s8 7) s9))
    (k0_pay82 x (rowsOf s8 8) s9)
    (k0_pay83 x (rowsOf s8 9) s9)
    (k0_pay86 (k0_pay84 x (rowsOf s8 10)) (k0_pay85 s9))
    (k0_pay87 x (rowsOf s8 11) s9)
    (k0_pay88 x (rowsOf s8 12) s9)
    (k0_pay90 (k0_pay89 x) (rowsOf s8 13) s9)
    (k0_pay91 x (rowsOf s8 14) s9)
    (k0_pay92 x (rowsOf s8 15) s9)
    (Scalar.ofBits .f32 0x00000000#32) (k0_pay93 (F := F)) (grpOf s10 0) (grpOf s10 1) (grpOf s10 2) (grpOf s10 3) w1 w2

/-- Per row the greatest logit plus the logarithm of the sum of exponentials. -/
def lseV (x : Vec F S512x512 .f32) (s8 : Vec F S512x256 .f32) (s9 : Vec F S1x4096 .f32) (s10 : Vec F S4096x128 .f32) (w1 : Vec F S512x2048 .f32) (w2 : Vec F S2048x100 .f32) : Vec F S512 .f32 :=
  k0_pay95 (k0_pay71 x (rowsOf s8 0) s9)
    (k0_pay72 x (rowsOf s8 1) s9)
    (k0_pay74 (k0_pay73 x (rowsOf s8 2)) s9)
    (k0_pay75 x (rowsOf s8 3) s9)
    (k0_pay76 x (rowsOf s8 4) s9)
    (k0_pay77 x (rowsOf s8 5) s9)
    (k0_pay78 x (rowsOf s8 6) s9)
    (k0_pay81 (k0_pay79 x (rowsOf s8 7) s9) (k0_pay80 x (rowsOf s8 7) s9))
    (k0_pay82 x (rowsOf s8 8) s9)
    (k0_pay83 x (rowsOf s8 9) s9)
    (k0_pay86 (k0_pay84 x (rowsOf s8 10)) (k0_pay85 s9))
    (k0_pay87 x (rowsOf s8 11) s9)
    (k0_pay88 x (rowsOf s8 12) s9)
    (k0_pay90 (k0_pay89 x) (rowsOf s8 13) s9)
    (k0_pay91 x (rowsOf s8 14) s9)
    (k0_pay92 x (rowsOf s8 15) s9)
    (Scalar.ofBits .f32 0x00000000#32) (k0_pay93 (F := F)) (grpOf s10 0) (grpOf s10 1) (grpOf s10 2) (grpOf s10 3) w1 w2

/-- The point's 512 losses, `y` its labels. -/
def lossV (x : Vec F S512x512 .f32) (y : Vec F S1x512 .i32) (s8 : Vec F S512x256 .f32) (s9 : Vec F S1x4096 .f32) (s10 : Vec F S4096x128 .f32) (w1 : Vec F S512x2048 .f32) (w2 : Vec F S2048x100 .f32) : Vec F S1x512 .f32 :=
  k0_pay1 (logitsV x s8 s9 s10 w1 w2) (iota .tc S512x100 32 [1] iota_S512x100_d1_w32) (lseV x s8 s9 s10 w1 w2) y

/-- The labels of the point's rows. -/
def labelsAt (i : grid0.Coords) (y : Vec F S1x4096 .i32) : Vec F S1x512 .i32 :=
  View.ld y (Rect.unit (s := S1x4096) (k0_off1 i) S1x512.size (Gen.k0_off1_inb i))

end Cert.KernelIdeal

end
-- ==== Proof.BuildRun.lean ====
/-
  The first grid point's set-up: the statements under `pl.when(i == 0)`, run on whole buffers, leave
  `cbt`, `csq` and `dec` of the codebooks in the three scratch buffers, whatever they held before.
-/
module

public import proofs.«01_k».proof.Proof.Operands

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ (UR sig nD τ) ℕ

/-- The statements under `pl.when(i == 0)`, and then `k`. -/
def buildOps {α : Type} (i : grid0.Coords) (arg1 : Memref sig .tc .vmem S512x512 .f32) (harg1 : arg1.IsWhole) (arg2 : Memref sig .tc .vmem S1x4096 .i32) (harg2 : arg2.IsWhole) (arg3 : Memref sig .tc .vmem S4096x32 .f32) (harg3 : arg3.IsWhole) (arg4 : Memref sig .tc .vmem S512x2048 .f32) (harg4 : arg4.IsWhole) (arg5 : Memref sig .tc .vmem S2048x100 .f32) (harg5 : arg5.IsWhole) (arg6 : Memref sig .tc .vmem S512x100 .f32) (harg6 : arg6.IsWhole) (arg7 : Memref sig .tc .vmem S1x4096 .f32) (harg7 : arg7.IsWhole) (arg8 : Memref sig .tc .vmem S512x256 .f32) (harg8 : arg8.IsWhole) (arg9 : Memref sig .tc .vmem S1x4096 .f32) (harg9 : arg9.IsWhole) (arg10 : Memref sig .tc .vmem S4096x128 .f32) (harg10 : arg10.IsWhole)
    (k : PUnit → Prog (TpuEff nD τ sig (Elt F) Λ₀ .tc) α) : Prog (TpuEff nD τ sig (Elt F) Λ₀ .tc) α := do
  let ⟨v309, cst_158⟩ : Σ' (v309 : FVec F S32x256 .f32), F .f32 ← k0_part1 i arg1 harg1 arg2 harg2 arg3 harg3 arg4 harg4 arg5 harg5 arg6 harg6 arg7 harg7 arg8 harg8 arg9 harg9 arg10 harg10
  let v343 : FVec F S32x256 .f32 ← k0_part2 i arg1 harg1 arg2 harg2 arg3 harg3 arg4 harg4 arg5 harg5 arg6 harg6 arg7 harg7 arg8 harg8 arg9 harg9 arg10 harg10 v309 cst_158
  let v381 : FVec F S1x256 .f32 ← k0_part3 i arg1 harg1 arg2 harg2 arg3 harg3 arg4 harg4 arg5 harg5 arg6 harg6 arg7 harg7 arg8 harg8 arg9 harg9 arg10 harg10 v343
  let ⟨v415, v416⟩ : Σ' (v415 : FVec F S1x256 .f32), Vec F S1x256 .f32 ← k0_part4 i arg1 harg1 arg2 harg2 arg3 harg3 arg4 harg4 arg5 harg5 arg6 harg6 arg7 harg7 arg8 harg8 arg9 harg9 arg10 harg10 v381
  let v451 : Vec F S256x32 .f32 ← k0_part5 i arg1 harg1 arg2 harg2 arg3 harg3 arg4 harg4 arg5 harg5 arg6 harg6 arg7 harg7 arg8 harg8 arg9 harg9 arg10 harg10 v415 v416
  let v487 : FVec F S32x256 .f32 ← k0_part6 i arg1 harg1 arg2 harg2 arg3 harg3 arg4 harg4 arg5 harg5 arg6 harg6 arg7 harg7 arg8 harg8 arg9 harg9 arg10 harg10 v451
  let v523 : FVec F S32x256 .f32 ← k0_part7 i arg1 harg1 arg2 harg2 arg3 harg3 arg4 harg4 arg5 harg5 arg6 harg6 arg7 harg7 arg8 harg8 arg9 harg9 arg10 harg10 v487
  k0_part8 i arg1 harg1 arg2 harg2 arg3 harg3 arg4 harg4 arg5 harg5 arg6 harg6 arg7 harg7 arg8 harg8 arg9 harg9 arg10 harg10 v523
  k0_part9 i arg1 harg1 arg2 harg2 arg3 harg3 arg4 harg4 arg5 harg5 arg6 harg6 arg7 harg7 arg8 harg8 arg9 harg9 arg10 harg10
  k0_part10 i arg1 harg1 arg2 harg2 arg3 harg3 arg4 harg4 arg5 harg5 arg6 harg6 arg7 harg7 arg8 harg8 arg9 harg9 arg10 harg10
  k ⟨⟩

set_option maxHeartbeats 1600000 in
theorem build_run {α : Type} (c : Dev nD) (i : grid0.Coords) (arg1 : Memref sig .tc .vmem S512x512 .f32) (harg1 : arg1.IsWhole) (arg2 : Memref sig .tc .vmem S1x4096 .i32) (harg2 : arg2.IsWhole) (arg3 : Memref sig .tc .vmem S4096x32 .f32) (harg3 : arg3.IsWhole) (arg4 : Memref sig .tc .vmem S512x2048 .f32) (harg4 : arg4.IsWhole) (arg5 : Memref sig .tc .vmem S2048x100 .f32) (harg5 : arg5.IsWhole) (arg6 : Memref sig .tc .vmem S512x100 .f32) (harg6 : arg6.IsWhole) (arg7 : Memref sig .tc .vmem S1x4096 .f32) (harg7 : arg7.IsWhole) (arg8 : Memref sig .tc .vmem S512x256 .f32) (harg8 : arg8.IsWhole) (arg9 : Memref sig .tc .vmem S1x4096 .f32) (harg9 : arg9.IsWhole) (arg10 : Memref sig .tc .vmem S4096x128 .f32) (harg10 : arg10.IsWhole) (x2 : Vec F S4096x32 .f32) (k : PUnit → Prog (TpuEff nD τ sig (Elt F) Λ₀ .tc) α) (E : Set ℕ) (K : α → sProp 𝕄) :
    iprop(owns (c : Thread nD τ) arg3 fullShare x2 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x2 ∗ owns (c : Thread nD τ) arg8 fullShare (cbt x2) ∗ owns (c : Thread nD τ) arg9 fullShare (csq x2) ∗ owns (c : Thread nD τ) arg10 fullShare (dec x2)) -∗ wp frame (wpE (defs₀ (F := F)) Variants.none c none) E (k ⟨⟩) K))
      ⊢ wp frame (wpE (defs₀ (F := F)) Variants.none c none) E (buildOps i arg1 harg1 arg2 harg2 arg3 harg3 arg4 harg4 arg5 harg5 arg6 harg6 arg7 harg7 arg8 harg8 arg9 harg9 arg10 harg10 k) K := by
  unfold buildOps
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f2, %hf2, H2⟩, ⟨%ds0, %fs0, -, HS0⟩, ⟨%ds1, %fs1, -, HS1⟩, ⟨%ds2, %fs2, -, HS2⟩, Hk⟩
  obtain rfl := harg3.eq_unread hf2
  sl_exec
  iapply Hk
  isplitl [H2]
  · iexists _; isplitr; · ipureintro; exact harg3.read_unread _
    iexact H2
  isplitl [HS0]
  · iexists _; isplitr; swap; · iexact HS0
    ipureintro
    sl_unfold_words
    funext y
    simp only [View.readAt_eq_ld, harg3.read_unread]
    refine View.read_writes_apply_of_pieces _ _ (cbt x2) _ ?_ y (View.cover_of_tiled _ ![32, 256] rfl y)
    simp only [List.forall_mem_cons, List.not_mem_nil, false_imp_iff, implies_true, _root_.and_true]
    refine ⟨?_, ?_, ?_, ?_, ?_, ?_, ?_, ?_, ?_, ?_, ?_, ?_, ?_, ?_, ?_, ?_⟩ <;> intro x
    · exact cbt_piece x2 15 rfl rfl _ _ x
    · exact cbt_piece x2 14 rfl rfl _ _ x
    · exact cbt_piece x2 13 rfl rfl _ _ x
    · exact cbt_piece x2 12 rfl rfl _ _ x
    · exact cbt_piece x2 11 rfl rfl _ _ x
    · exact cbt_piece x2 10 rfl rfl _ _ x
    · exact cbt_piece x2 9 rfl rfl _ _ x
    · exact cbt_piece x2 8 rfl rfl _ _ x
    · exact cbt_piece x2 7 rfl rfl _ _ x
    · exact cbt_piece x2 6 rfl rfl _ _ x
    · exact cbt_piece x2 5 rfl rfl _ _ x
    · exact cbt_piece x2 4 rfl rfl _ _ x
    · exact cbt_piece x2 3 rfl rfl _ _ x
    · exact cbt_piece x2 2 rfl rfl _ _ x
    · exact cbt_piece x2 1 rfl rfl _ _ x
    · exact cbt_piece x2 0 rfl rfl _ _ x
  isplitl [HS1]
  · iexists _; isplitr; swap; · iexact HS1
    ipureintro
    sl_unfold_words
    funext y
    simp only [View.readAt_eq_ld, harg3.read_unread]
    refine View.read_writes_apply_of_pieces _ _ (csq x2) _ ?_ y (View.cover_of_tiled _ ![1, 256] rfl y)
    simp only [List.forall_mem_cons, List.not_mem_nil, false_imp_iff, implies_true, _root_.and_true]
    refine ⟨?_, ?_, ?_, ?_, ?_, ?_, ?_, ?_, ?_, ?_, ?_, ?_, ?_, ?_, ?_, ?_⟩ <;> intro x
    · exact csq_piece x2 15 rfl rfl _ _ x
    · exact csq_piece x2 14 rfl rfl _ _ x
    · exact csq_piece x2 13 rfl rfl _ _ x
    · exact csq_piece x2 12 rfl rfl _ _ x
    · exact csq_piece x2 11 rfl rfl _ _ x
    · exact csq_piece x2 10 rfl rfl _ _ x
    · exact csq_piece x2 9 rfl rfl _ _ x
    · exact csq_piece x2 8 rfl rfl _ _ x
    · exact csq_piece x2 7 rfl rfl _ _ x
    · exact csq_piece x2 6 rfl rfl _ _ x
    · exact csq_piece x2 5 rfl rfl _ _ x
    · exact csq_piece x2 4 rfl rfl _ _ x
    · exact csq_piece x2 3 rfl rfl _ _ x
    · exact csq_piece x2 2 rfl rfl _ _ x
    · exact csq_piece x2 1 rfl rfl _ _ x
    · exact csq_piece x2 0 rfl rfl _ _ x
  iexists _; isplitr; swap; · iexact HS2
  ipureintro
  sl_unfold_words
  funext y
  simp only [View.readAt_eq_ld, harg3.read_unread]
  refine read_writes_over _ _ (dec x2) _ y [_, _, _, _, _, _, _, _, _, _, _, _, _, _, _, _] ?_ ?_
  · simp only [List.forall_mem_cons, List.not_mem_nil, false_imp_iff, implies_true, _root_.and_true]
    refine ⟨?_, ?_, ?_, ?_, ?_, ?_, ?_, ?_, ?_, ?_, ?_, ?_, ?_, ?_, ?_, ?_⟩ <;> intro x
    · exact dec_piece x2 15 rfl rfl rfl _ _ x
    · exact dec_piece x2 14 rfl rfl rfl _ _ x
    · exact dec_piece x2 13 rfl rfl rfl _ _ x
    · exact dec_piece x2 12 rfl rfl rfl _ _ x
    · exact dec_piece x2 11 rfl rfl rfl _ _ x
    · exact dec_piece x2 10 rfl rfl rfl _ _ x
    · exact dec_piece x2 9 rfl rfl rfl _ _ x
    · exact dec_piece x2 8 rfl rfl rfl _ _ x
    · exact dec_piece x2 7 rfl rfl rfl _ _ x
    · exact dec_piece x2 6 rfl rfl rfl _ _ x
    · exact dec_piece x2 5 rfl rfl rfl _ _ x
    · exact dec_piece x2 4 rfl rfl rfl _ _ x
    · exact dec_piece x2 3 rfl rfl rfl _ _ x
    · exact dec_piece x2 2 rfl rfl rfl _ _ x
    · exact dec_piece x2 1 rfl rfl rfl _ _ x
    · exact dec_piece x2 0 rfl rfl rfl _ _ x
  · simp only [List.forall_mem_cons, List.not_mem_nil, false_imp_iff, implies_true, _root_.and_true, Rect.mem_set_unit, Fin.forall_fin_two]
    intro hn
    refine (View.read_writes_cons_unit_of_mem (off' := ![0, 0]) _ _ _ _ _ y y rfl (Fin.forall_fin_two.mpr ⟨(Nat.zero_add _).symm, (Nat.zero_add _).symm⟩)).trans ?_
    exact dec_fill x2 y fun m => by
      fin_cases m
      · exact hn.2.2.2.2.2.2.2.2.2.2.2.2.2.2.2
      · exact hn.2.2.2.2.2.2.2.2.2.2.2.2.2.2.1
      · exact hn.2.2.2.2.2.2.2.2.2.2.2.2.2.1
      · exact hn.2.2.2.2.2.2.2.2.2.2.2.2.1
      · exact hn.2.2.2.2.2.2.2.2.2.2.2.1
      · exact hn.2.2.2.2.2.2.2.2.2.2.1
      · exact hn.2.2.2.2.2.2.2.2.2.1
      · exact hn.2.2.2.2.2.2.2.2.1
      · exact hn.2.2.2.2.2.2.2.1
      · exact hn.2.2.2.2.2.2.1
      · exact hn.2.2.2.2.2.1
      · exact hn.2.2.2.2.1
      · exact hn.2.2.2.1
      · exact hn.2.2.1
      · exact hn.2.1
      · exact hn.1

end Cert.KernelIdeal

end
-- ==== Proof.MainRun.lean ====
/-
  The kernel's body at one grid point: the set-up of the first point, then the statements every point runs.
  Run on whole buffers whose scratch holds `s8`, `s9`, `s10`, those statements leave `logitsV` in the block of
  logits and put `lossV` over the point's 512 columns of the row of losses, the other columns as they were.
-/
module

public import proofs.«01_k».proof.Proof.Operands
public import proofs.«01_k».proof.Proof.BodyValues
public import proofs.«01_k».proof.Proof.BuildRun

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ (UR sig nD τ) ℕ

/-- The statements after the set-up up to the first part's end. -/
def tail11 (i : grid0.Coords) (arg1 : Memref sig .tc .vmem S512x512 .f32) (harg1 : arg1.IsWhole) (arg2 : Memref sig .tc .vmem S1x4096 .i32) (harg2 : arg2.IsWhole) (arg3 : Memref sig .tc .vmem S4096x32 .f32) (harg3 : arg3.IsWhole) (arg4 : Memref sig .tc .vmem S512x2048 .f32) (harg4 : arg4.IsWhole) (arg5 : Memref sig .tc .vmem S2048x100 .f32) (harg5 : arg5.IsWhole) (arg6 : Memref sig .tc .vmem S512x100 .f32) (harg6 : arg6.IsWhole) (arg7 : Memref sig .tc .vmem S1x4096 .f32) (harg7 : arg7.IsWhole) (arg8 : Memref sig .tc .vmem S512x256 .f32) (harg8 : arg8.IsWhole) (arg9 : Memref sig .tc .vmem S1x4096 .f32) (harg9 : arg9.IsWhole) (arg10 : Memref sig .tc .vmem S4096x128 .f32) (harg10 : arg10.IsWhole) :
    Prog (TpuEff nD τ sig (Elt F) Λ₀ .tc) (Σ' (arg0 : BitVec 32) (v3 : Vec F S512x512 .f32) (v17 : FVec F S512x256 .f32) (v31 : FVec F S512x256 .f32), FVec F S512x256 .f32) := do
  let v3 : Vec F S512x512 .f32 ← Prog.lift (.load arg1 (Rect.unit (s := S512x512) ![0, 0] S512x512.size inb_S512x512_S512x512_0_0).toLoadRect (View.loadsAt_vmem h_S512x512))
  let v5 : Vec F S32x256 .f32 ← Prog.lift (.load arg8 (Rect.unit (s := S512x256) ![0, 0] S32x256.size inb_S512x256_S32x256_0_0).toLoadRect (View.loadsAt_vmem h_S32x256))
  let v7 : Vec F S1x4096 .f32 ← Prog.lift (.load arg9 (Rect.unit (s := S1x4096) ![0, 0] S1x4096.size inb_S1x4096_S1x4096_0_0).toLoadRect (View.loadsAt_vmem h_S1x4096))
  let v19 : Vec F S32x256 .f32 ← Prog.lift (.load arg8 (Rect.unit (s := S512x256) ![32, 0] S32x256.size inb_S512x256_S32x256_32_0).toLoadRect (View.loadsAt_vmem h_S32x256))
  let v21 : Vec F S1x4096 .f32 ← Prog.lift (.load arg9 (Rect.unit (s := S1x4096) ![0, 0] S1x4096.size inb_S1x4096_S1x4096_0_0).toLoadRect (View.loadsAt_vmem h_S1x4096))
  let v33 : Vec F S32x256 .f32 ← Prog.lift (.load arg8 (Rect.unit (s := S512x256) ![64, 0] S32x256.size inb_S512x256_S32x256_64_0).toLoadRect (View.loadsAt_vmem h_S32x256))
  pure ⟨BitVec.ofNat 32 (i 0).val, v3, k0_pay71 v3 v5 v7, k0_pay72 v3 v19 v21, k0_pay73 v3 v33⟩

/-- The later parts' statements, from what the first part leaves. -/
def rest (i : grid0.Coords) (arg1 : Memref sig .tc .vmem S512x512 .f32) (harg1 : arg1.IsWhole) (arg2 : Memref sig .tc .vmem S1x4096 .i32) (harg2 : arg2.IsWhole) (arg3 : Memref sig .tc .vmem S4096x32 .f32) (harg3 : arg3.IsWhole) (arg4 : Memref sig .tc .vmem S512x2048 .f32) (harg4 : arg4.IsWhole) (arg5 : Memref sig .tc .vmem S2048x100 .f32) (harg5 : arg5.IsWhole) (arg6 : Memref sig .tc .vmem S512x100 .f32) (harg6 : arg6.IsWhole) (arg7 : Memref sig .tc .vmem S1x4096 .f32) (harg7 : arg7.IsWhole) (arg8 : Memref sig .tc .vmem S512x256 .f32) (harg8 : arg8.IsWhole) (arg9 : Memref sig .tc .vmem S1x4096 .f32) (harg9 : arg9.IsWhole) (arg10 : Memref sig .tc .vmem S4096x128 .f32) (harg10 : arg10.IsWhole)
    (z : Σ' (arg0 : BitVec 32) (v3 : Vec F S512x512 .f32) (v17 : FVec F S512x256 .f32) (v31 : FVec F S512x256 .f32), FVec F S512x256 .f32) : Prog (TpuEff nD τ sig (Elt F) Λ₀ .tc) PUnit := do
  let ⟨arg0, v3, v17, v31, v34⟩ := z
  let ⟨v45, v59, v73⟩ : Σ' (v45 : FVec F S512x256 .f32) (v59 : FVec F S512x256 .f32), FVec F S512x256 .f32 ← k0_part12 i arg1 harg1 arg2 harg2 arg3 harg3 arg4 harg4 arg5 harg5 arg6 harg6 arg7 harg7 arg8 harg8 arg9 harg9 arg10 harg10 v3 v34
  let ⟨v87, v101, v108, v111⟩ : Σ' (v87 : FVec F S512x256 .f32) (v101 : FVec F S512x256 .f32) (v108 : FVec F S512x256 .f32), FVec F S512x256 .f32 ← k0_part13 i arg1 harg1 arg2 harg2 arg3 harg3 arg4 harg4 arg5 harg5 arg6 harg6 arg7 harg7 arg8 harg8 arg9 harg9 arg10 harg10 v3
  let ⟨v115, v129, v143, v146, v148⟩ : Σ' (v115 : FVec F S512x256 .f32) (v129 : FVec F S512x256 .f32) (v143 : FVec F S512x256 .f32) (v146 : FVec F S512x256 .f32), FVec F S1x256 .f32 ← k0_part14 i arg1 harg1 arg2 harg2 arg3 harg3 arg4 harg4 arg5 harg5 arg6 harg6 arg7 harg7 arg8 harg8 arg9 harg9 arg10 harg10 v3 v108 v111
  let ⟨v157, v171, v185, v186, v187⟩ : Σ' (v157 : FVec F S512x256 .f32) (v171 : FVec F S512x256 .f32) (v185 : FVec F S512x256 .f32) (v186 : FVec F S512x32 .f32), Vec F S32x256 .f32 ← k0_part15 i arg1 harg1 arg2 harg2 arg3 harg3 arg4 harg4 arg5 harg5 arg6 harg6 arg7 harg7 arg8 harg8 arg9 harg9 arg10 harg10 v3 v146 v148
  let ⟨v199, v213, v224, cst_113, v225⟩ : Σ' (v199 : FVec F S512x256 .f32) (v213 : FVec F S512x256 .f32) (v224 : IVec S512x256 1) (cst_113 : F .f32), FVec F S512x256 .f32 ← k0_part16 i arg1 harg1 arg2 harg2 arg3 harg3 arg4 harg4 arg5 harg5 arg6 harg6 arg7 harg7 arg8 harg8 arg9 harg9 arg10 harg10 v3 v186 v187
  let ⟨v247, v249, v258, v259⟩ : Σ' (v247 : FVec F S512x100 .f32) (v249 : IVec S512x100 32) (v258 : FVec F S512 .f32), BitVec 32 ← k0_part17 i arg1 harg1 arg2 harg2 arg3 harg3 arg4 harg4 arg5 harg5 arg6 harg6 arg7 harg7 arg8 harg8 arg9 harg9 arg10 harg10 arg0 v17 v31 v45 v59 v73 v87 v101 v115 v129 v143 v157 v171 v185 v199 v213 v224 cst_113 v225
  let v261 : Vec F S1x512 .i32 ← Prog.lift (.load arg2 (Rect.unit (s := S1x4096) (k0_off1 i) S1x512.size (k0_off1_inb i)).toLoadRect (View.loadsAt_vmem h_S1x512))
  let v272 : Vec F S1x512 .f32 ← Prog.lift (.load arg7 (Rect.unit (s := S1x4096) (k0_off1 i) S1x512.size (k0_off1_inb i)).toLoadRect (View.loadsAt_vmem h_S1x512))
  Prog.lift (.store arg7 (Rect.unit (s := S1x4096) (k0_off1 i) S1x512.size (k0_off1_inb i)) (k0_pay1 v247 v249 v258 v261) Finset.univ (View.stores_vmem_bits_univ h_S1x512 rfl) (.inl rfl))
  pure ⟨⟩

/-- The statements every point runs. -/
def mainOps (i : grid0.Coords) (arg1 : Memref sig .tc .vmem S512x512 .f32) (harg1 : arg1.IsWhole) (arg2 : Memref sig .tc .vmem S1x4096 .i32) (harg2 : arg2.IsWhole) (arg3 : Memref sig .tc .vmem S4096x32 .f32) (harg3 : arg3.IsWhole) (arg4 : Memref sig .tc .vmem S512x2048 .f32) (harg4 : arg4.IsWhole) (arg5 : Memref sig .tc .vmem S2048x100 .f32) (harg5 : arg5.IsWhole) (arg6 : Memref sig .tc .vmem S512x100 .f32) (harg6 : arg6.IsWhole) (arg7 : Memref sig .tc .vmem S1x4096 .f32) (harg7 : arg7.IsWhole) (arg8 : Memref sig .tc .vmem S512x256 .f32) (harg8 : arg8.IsWhole) (arg9 : Memref sig .tc .vmem S1x4096 .f32) (harg9 : arg9.IsWhole) (arg10 : Memref sig .tc .vmem S4096x128 .f32) (harg10 : arg10.IsWhole) : Prog (TpuEff nD τ sig (Elt F) Λ₀ .tc) PUnit :=
  tail11 i arg1 harg1 arg2 harg2 arg3 harg3 arg4 harg4 arg5 harg5 arg6 harg6 arg7 harg7 arg8 harg8 arg9 harg9 arg10 harg10 >>= rest i arg1 harg1 arg2 harg2 arg3 harg3 arg4 harg4 arg5 harg5 arg6 harg6 arg7 harg7 arg8 harg8 arg9 harg9 arg10 harg10

/-- The condition of `pl.when(i == 0)`, as the body computes it. -/
abbrev isFirst (i : grid0.Coords) : Prop := (Scalar.cmpi .ne (Scalar.extui (Scalar.cmpi .eq (BitVec.ofNat 32 (i 0).val) 0#32)) 0#32) = 1#1

/-- Where the condition holds the body is its set-up and then the statements every point runs. -/
theorem body_first (i : grid0.Coords) (arg1 : Memref sig .tc .vmem S512x512 .f32) (harg1 : arg1.IsWhole) (arg2 : Memref sig .tc .vmem S1x4096 .i32) (harg2 : arg2.IsWhole) (arg3 : Memref sig .tc .vmem S4096x32 .f32) (harg3 : arg3.IsWhole) (arg4 : Memref sig .tc .vmem S512x2048 .f32) (harg4 : arg4.IsWhole) (arg5 : Memref sig .tc .vmem S2048x100 .f32) (harg5 : arg5.IsWhole) (arg6 : Memref sig .tc .vmem S512x100 .f32) (harg6 : arg6.IsWhole) (arg7 : Memref sig .tc .vmem S1x4096 .f32) (harg7 : arg7.IsWhole) (arg8 : Memref sig .tc .vmem S512x256 .f32) (harg8 : arg8.IsWhole) (arg9 : Memref sig .tc .vmem S1x4096 .f32) (harg9 : arg9.IsWhole) (arg10 : Memref sig .tc .vmem S4096x128 .f32) (harg10 : arg10.IsWhole) (h : isFirst i) :
    cc0__fused_kernel (F := F) i arg1 harg1 arg2 harg2 arg3 harg3 arg4 harg4 arg5 harg5 arg6 harg6 arg7 harg7 arg8 harg8 arg9 harg9 arg10 harg10 = (buildOps i arg1 harg1 arg2 harg2 arg3 harg3 arg4 harg4 arg5 harg5 arg6 harg6 arg7 harg7 arg8 harg8 arg9 harg9 arg10 harg10 (fun _ => tail11 i arg1 harg1 arg2 harg2 arg3 harg3 arg4 harg4 arg5 harg5 arg6 harg6 arg7 harg7 arg8 harg8 arg9 harg9 arg10 harg10) >>= rest i arg1 harg1 arg2 harg2 arg3 harg3 arg4 harg4 arg5 harg5 arg6 harg6 arg7 harg7 arg8 harg8 arg9 harg9 arg10 harg10) := by
  rw [cc0__fused_kernel_eq_skeleton]
  unfold cc0__fused_kernel_skel
  rw [k0_part11_eq_skeleton]
  refine congr (congrArg _ ?_) rfl
  unfold k0_part11_skel
  refine (dif_pos h).trans ?_
  rfl

/-- Where it fails the body is those statements alone. -/
theorem body_later (i : grid0.Coords) (arg1 : Memref sig .tc .vmem S512x512 .f32) (harg1 : arg1.IsWhole) (arg2 : Memref sig .tc .vmem S1x4096 .i32) (harg2 : arg2.IsWhole) (arg3 : Memref sig .tc .vmem S4096x32 .f32) (harg3 : arg3.IsWhole) (arg4 : Memref sig .tc .vmem S512x2048 .f32) (harg4 : arg4.IsWhole) (arg5 : Memref sig .tc .vmem S2048x100 .f32) (harg5 : arg5.IsWhole) (arg6 : Memref sig .tc .vmem S512x100 .f32) (harg6 : arg6.IsWhole) (arg7 : Memref sig .tc .vmem S1x4096 .f32) (harg7 : arg7.IsWhole) (arg8 : Memref sig .tc .vmem S512x256 .f32) (harg8 : arg8.IsWhole) (arg9 : Memref sig .tc .vmem S1x4096 .f32) (harg9 : arg9.IsWhole) (arg10 : Memref sig .tc .vmem S4096x128 .f32) (harg10 : arg10.IsWhole) (h : ¬ isFirst i) :
    cc0__fused_kernel (F := F) i arg1 harg1 arg2 harg2 arg3 harg3 arg4 harg4 arg5 harg5 arg6 harg6 arg7 harg7 arg8 harg8 arg9 harg9 arg10 harg10 = mainOps i arg1 harg1 arg2 harg2 arg3 harg3 arg4 harg4 arg5 harg5 arg6 harg6 arg7 harg7 arg8 harg8 arg9 harg9 arg10 harg10 := by
  rw [cc0__fused_kernel_eq_skeleton]
  unfold cc0__fused_kernel_skel mainOps
  rw [k0_part11_eq_skeleton]
  refine congr (congrArg _ ?_) rfl
  unfold k0_part11_skel
  refine (dif_neg h).trans ?_
  rfl

/-- One store through a rectangle overlays what was there. -/
theorem read_writes_overlay {κ : Kind} {sp : Space} {s : Shape} {e} (v : View sig κ sp s e) (f : v.ty.Contents (Elt F)) (r : Rect s)
    (w : r.shape.Idx → Elt F e) : v.read (Elt F) (v.writes (Elt F) f [⟨r, w⟩]) = r.overlay (v.read (Elt F) f) w := by
  funext y
  by_cases hy : y ∈ r.set
  · rw [← Rect.map_emb_univ] at hy
    obtain ⟨x, -, rfl⟩ := Finset.mem_map.mp hy
    exact (View.read_writes_cons_emb v f r w [] x).trans (r.overlay_emb _ _ x).symm
  · rw [View.read_writes_apply_of_forall_not_mem v f y _ (by simpa using hy), r.overlay_of_not_mem _ _ hy]

set_option maxHeartbeats 1600000 in
/-- The statements every point runs, on whole buffers. -/
theorem main_run (c : Dev nD) (i : grid0.Coords) (arg1 : Memref sig .tc .vmem S512x512 .f32) (harg1 : arg1.IsWhole) (arg2 : Memref sig .tc .vmem S1x4096 .i32) (harg2 : arg2.IsWhole) (arg3 : Memref sig .tc .vmem S4096x32 .f32) (harg3 : arg3.IsWhole) (arg4 : Memref sig .tc .vmem S512x2048 .f32) (harg4 : arg4.IsWhole) (arg5 : Memref sig .tc .vmem S2048x100 .f32) (harg5 : arg5.IsWhole) (arg6 : Memref sig .tc .vmem S512x100 .f32) (harg6 : arg6.IsWhole) (arg7 : Memref sig .tc .vmem S1x4096 .f32) (harg7 : arg7.IsWhole) (arg8 : Memref sig .tc .vmem S512x256 .f32) (harg8 : arg8.IsWhole) (arg9 : Memref sig .tc .vmem S1x4096 .f32) (harg9 : arg9.IsWhole) (arg10 : Memref sig .tc .vmem S4096x128 .f32) (harg10 : arg10.IsWhole)
    (x0 : Vec F S512x512 .f32) (x1 : Vec F S1x4096 .i32) (x3 : Vec F S512x2048 .f32) (x4 : Vec F S2048x100 .f32)
    (s8 : Vec F S512x256 .f32) (s9 : Vec F S1x4096 .f32) (s10 : Vec F S4096x128 .f32) (d6 : Vec F S1x4096 .f32) (E : Set ℕ) (K : PUnit → sProp 𝕄) :
    iprop(owns (c : Thread nD τ) arg1 fullShare x0 ∗ owns (c : Thread nD τ) arg2 fullShare x1 ∗ owns (c : Thread nD τ) arg4 fullShare x3 ∗ owns (c : Thread nD τ) arg5 fullShare x4 ∗ (∃ d, owns (c : Thread nD τ) arg6 fullShare d) ∗ owns (c : Thread nD τ) arg7 fullShare d6 ∗ owns (c : Thread nD τ) arg8 fullShare s8 ∗ owns (c : Thread nD τ) arg9 fullShare s9 ∗ owns (c : Thread nD τ) arg10 fullShare s10
        ∗ (iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare (logitsV x0 s8 s9 s10 x3 x4)
            ∗ owns (c : Thread nD τ) arg7 fullShare ((Rect.unit (s := S1x4096) (k0_off1 i) S1x512.size (Gen.k0_off1_inb i)).overlay d6 (lossV x0 (labelsAt i x1) s8 s9 s10 x3 x4))
            ∗ owns (c : Thread nD τ) arg8 fullShare s8 ∗ owns (c : Thread nD τ) arg9 fullShare s9 ∗ owns (c : Thread nD τ) arg10 fullShare s10) -∗ K ⟨⟩))
      ⊢ wp frame (wpE (defs₀ (F := F)) Variants.none c none) E (mainOps i arg1 harg1 arg2 harg2 arg3 harg3 arg4 harg4 arg5 harg5 arg6 harg6 arg7 harg7 arg8 harg8 arg9 harg9 arg10 harg10) K := by
  unfold mainOps tail11 rest
  simp only [k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f3, %hf3, H3⟩, ⟨%f4, %hf4, H4⟩, ⟨%d5, %f5, -, H5⟩, ⟨%f6, %hf6, H6⟩, ⟨%fs0, %hs0, HS0⟩, ⟨%fs1, %hs1, HS1⟩, ⟨%fs2, %hs2, HS2⟩, Hk⟩
  obtain rfl := harg1.eq_unread hf0; obtain rfl := harg2.eq_unread hf1; obtain rfl := harg4.eq_unread hf3; obtain rfl := harg5.eq_unread hf4
  obtain rfl := harg7.eq_unread hf6
  obtain rfl := harg8.eq_unread hs0; obtain rfl := harg9.eq_unread hs1; obtain rfl := harg10.eq_unread hs2
  have hz : (![0, 0] : Fin 2 → ℕ) = fun _ => 0 := by funext a; fin_cases a <;> rfl
  have e0 := fun inb => View.ld_unit_zero (S := S512x512) (Val := Elt F) (e := .f32) hz inb x0
  have e3 := fun inb => View.ld_unit_zero (S := S512x2048) (Val := Elt F) (e := .f32) hz inb x3
  have e4 := fun inb => View.ld_unit_zero (S := S2048x100) (Val := Elt F) (e := .f32) hz inb x4
  have e9 := fun inb => View.ld_unit_zero (S := S1x4096) (Val := Elt F) (e := .f32) hz inb s9
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    refine (View.read_writes_eq_canon _ _ _ (fun y => View.cover_of_tiled _ ![512, 100] rfl y)).trans ?_
    refine (View.canon_unit_zero hz _ _).trans ?_
    simp only [View.readAt_eq_ld, harg1.read_unread, harg2.read_unread, harg4.read_unread, harg5.read_unread, harg8.read_unread, harg9.read_unread, harg10.read_unread,
      e0, e3, e4, e9,
      rowsOf_eq_ld s8 0 (o := 0) rfl,
      rowsOf_eq_ld s8 1 (o := 32) rfl,
      rowsOf_eq_ld s8 2 (o := 64) rfl,
      rowsOf_eq_ld s8 3 (o := 96) rfl,
      rowsOf_eq_ld s8 4 (o := 128) rfl,
      rowsOf_eq_ld s8 5 (o := 160) rfl,
      rowsOf_eq_ld s8 6 (o := 192) rfl,
      rowsOf_eq_ld s8 7 (o := 224) rfl,
      rowsOf_eq_ld s8 8 (o := 256) rfl,
      rowsOf_eq_ld s8 9 (o := 288) rfl,
      rowsOf_eq_ld s8 10 (o := 320) rfl,
      rowsOf_eq_ld s8 11 (o := 352) rfl,
      rowsOf_eq_ld s8 12 (o := 384) rfl,
      rowsOf_eq_ld s8 13 (o := 416) rfl,
      rowsOf_eq_ld s8 14 (o := 448) rfl,
      rowsOf_eq_ld s8 15 (o := 480) rfl,
      grpOf_eq_ld s10 0 (o := 0) rfl,
      grpOf_eq_ld s10 1 (o := 1024) rfl,
      grpOf_eq_ld s10 2 (o := 2048) rfl,
      grpOf_eq_ld s10 3 (o := 3072) rfl]
    rfl
  isplitl [H6]
  · iexists _; isplitr; swap; · iexact H6
    ipureintro
    sl_unfold_words
    simp only [View.readAt_eq_ld, harg1.read_unread, harg2.read_unread, harg4.read_unread, harg5.read_unread, harg8.read_unread, harg9.read_unread, harg10.read_unread,
      e0, e3, e4, e9,
      rowsOf_eq_ld s8 0 (o := 0) rfl,
      rowsOf_eq_ld s8 1 (o := 32) rfl,
      rowsOf_eq_ld s8 2 (o := 64) rfl,
      rowsOf_eq_ld s8 3 (o := 96) rfl,
      rowsOf_eq_ld s8 4 (o := 128) rfl,
      rowsOf_eq_ld s8 5 (o := 160) rfl,
      rowsOf_eq_ld s8 6 (o := 192) rfl,
      rowsOf_eq_ld s8 7 (o := 224) rfl,
      rowsOf_eq_ld s8 8 (o := 256) rfl,
      rowsOf_eq_ld s8 9 (o := 288) rfl,
      rowsOf_eq_ld s8 10 (o := 320) rfl,
      rowsOf_eq_ld s8 11 (o := 352) rfl,
      rowsOf_eq_ld s8 12 (o := 384) rfl,
      rowsOf_eq_ld s8 13 (o := 416) rfl,
      rowsOf_eq_ld s8 14 (o := 448) rfl,
      rowsOf_eq_ld s8 15 (o := 480) rfl,
      grpOf_eq_ld s10 0 (o := 0) rfl,
      grpOf_eq_ld s10 1 (o := 1024) rfl,
      grpOf_eq_ld s10 2 (o := 2048) rfl,
      grpOf_eq_ld s10 3 (o := 3072) rfl]
    refine (read_writes_overlay (F := F) _ _ _ _).trans ?_
    rw [harg7.read_unread]
    rfl
  isplitl [HS0]
  · iexists _; isplitr; · ipureintro; exact harg8.read_unread _
    iexact HS0
  isplitl [HS1]
  · iexists _; isplitr; · ipureintro; exact harg9.read_unread _
    iexact HS1
  iexists _; isplitr; · ipureintro; exact harg10.read_unread _
  iexact HS2

end Cert.KernelIdeal

end
-- ==== Proof.BodyRun.lean ====
/-
  The whole body at one grid point: at the first point, whatever the scratch holds, and at a later one, the scratch
  holding the codebooks' three operands, it leaves the same things: the block of logits, the point's losses over its
  columns of the row of losses, and the three operands in the scratch.
-/
module

public import proofs.«01_k».proof.Proof.Operands
public import proofs.«01_k».proof.Proof.MainRun

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ (UR sig nD τ) ℕ

/-- The body at the first point. -/
theorem first_run (c : Dev nD) (i : grid0.Coords) (arg1 : Memref sig .tc .vmem S512x512 .f32) (harg1 : arg1.IsWhole) (arg2 : Memref sig .tc .vmem S1x4096 .i32) (harg2 : arg2.IsWhole) (arg3 : Memref sig .tc .vmem S4096x32 .f32) (harg3 : arg3.IsWhole) (arg4 : Memref sig .tc .vmem S512x2048 .f32) (harg4 : arg4.IsWhole) (arg5 : Memref sig .tc .vmem S2048x100 .f32) (harg5 : arg5.IsWhole) (arg6 : Memref sig .tc .vmem S512x100 .f32) (harg6 : arg6.IsWhole) (arg7 : Memref sig .tc .vmem S1x4096 .f32) (harg7 : arg7.IsWhole) (arg8 : Memref sig .tc .vmem S512x256 .f32) (harg8 : arg8.IsWhole) (arg9 : Memref sig .tc .vmem S1x4096 .f32) (harg9 : arg9.IsWhole) (arg10 : Memref sig .tc .vmem S4096x128 .f32) (harg10 : arg10.IsWhole)
    (x0 : Vec F S512x512 .f32) (x1 : Vec F S1x4096 .i32) (x2 : Vec F S4096x32 .f32) (x3 : Vec F S512x2048 .f32) (x4 : Vec F S2048x100 .f32) (d6 : Vec F S1x4096 .f32) (E : Set ℕ) (K : PUnit → sProp 𝕄) (h : isFirst i) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare d6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (logitsV x0 (cbt x2) (csq x2) (dec x2) x3 x4) ∗ owns (c : Thread nD τ) arg7 fullShare ((Rect.unit (s := S1x4096) (k0_off1 i) S1x512.size (Gen.k0_off1_inb i)).overlay d6 (lossV x0 (labelsAt i x1) (cbt x2) (csq x2) (dec x2) x3 x4)) ∗ owns (c : Thread nD τ) arg8 fullShare (cbt x2) ∗ owns (c : Thread nD τ) arg9 fullShare (csq x2) ∗ owns (c : Thread nD τ) arg10 fullShare (dec x2)) -∗ K ⟨⟩))
      ⊢ wp frame (wpE (defs₀ (F := F)) Variants.none c none) E (cc0__fused_kernel (F := F) i arg1 harg1 arg2 harg2 arg3 harg3 arg4 harg4 arg5 harg5 arg6 harg6 arg7 harg7 arg8 harg8 arg9 harg9 arg10 harg10) K := by
  have key := main_run c i arg1 harg1 arg2 harg2 arg3 harg3 arg4 harg4 arg5 harg5 arg6 harg6 arg7 harg7 arg8 harg8 arg9 harg9 arg10 harg10 x0 x1 x3 x4 (cbt x2) (csq x2) (dec x2) d6 E K
  unfold mainOps at key
  rw [wp_bind] at key
  rw [body_first i arg1 harg1 arg2 harg2 arg3 harg3 arg4 harg4 arg5 harg5 arg6 harg6 arg7 harg7 arg8 harg8 arg9 harg9 arg10 harg10 h, wp_bind]
  iintro ⟨H0, H1, H2, H3, H4, H5, H6, HS0, HS1, HS2, Hk⟩
  iapply (build_run c i arg1 harg1 arg2 harg2 arg3 harg3 arg4 harg4 arg5 harg5 arg6 harg6 arg7 harg7 arg8 harg8 arg9 harg9 arg10 harg10 x2 (fun _ : PUnit.{1} => tail11 i arg1 harg1 arg2 harg2 arg3 harg3 arg4 harg4 arg5 harg5 arg6 harg6 arg7 harg7 arg8 harg8 arg9 harg9 arg10 harg10) E (fun a => wp frame (wpE (defs₀ (F := F)) Variants.none c none) E (rest i arg1 harg1 arg2 harg2 arg3 harg3 arg4 harg4 arg5 harg5 arg6 harg6 arg7 harg7 arg8 harg8 arg9 harg9 arg10 harg10 a) K))
  isplitl [H2]; · iexact H2
  isplitl [HS0]; · iexact HS0
  isplitl [HS1]; · iexact HS1
  isplitl [HS2]; · iexact HS2
  iintro ⟨H2, HS0, HS1, HS2⟩
  iapply key
  isplitl [H0]; · iexact H0
  isplitl [H1]; · iexact H1
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H3, H4, H5, H6, HS0, HS1, HS2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iexact HS2

/-- The body at a later point. -/
theorem later_run (c : Dev nD) (i : grid0.Coords) (arg1 : Memref sig .tc .vmem S512x512 .f32) (harg1 : arg1.IsWhole) (arg2 : Memref sig .tc .vmem S1x4096 .i32) (harg2 : arg2.IsWhole) (arg3 : Memref sig .tc .vmem S4096x32 .f32) (harg3 : arg3.IsWhole) (arg4 : Memref sig .tc .vmem S512x2048 .f32) (harg4 : arg4.IsWhole) (arg5 : Memref sig .tc .vmem S2048x100 .f32) (harg5 : arg5.IsWhole) (arg6 : Memref sig .tc .vmem S512x100 .f32) (harg6 : arg6.IsWhole) (arg7 : Memref sig .tc .vmem S1x4096 .f32) (harg7 : arg7.IsWhole) (arg8 : Memref sig .tc .vmem S512x256 .f32) (harg8 : arg8.IsWhole) (arg9 : Memref sig .tc .vmem S1x4096 .f32) (harg9 : arg9.IsWhole) (arg10 : Memref sig .tc .vmem S4096x128 .f32) (harg10 : arg10.IsWhole)
    (x0 : Vec F S512x512 .f32) (x1 : Vec F S1x4096 .i32) (x2 : Vec F S4096x32 .f32) (x3 : Vec F S512x2048 .f32) (x4 : Vec F S2048x100 .f32) (d6 : Vec F S1x4096 .f32) (E : Set ℕ) (K : PUnit → sProp 𝕄) (h : ¬ isFirst i) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare d6 ∗ owns (c : Thread nD τ) arg8 fullShare (cbt x2) ∗ owns (c : Thread nD τ) arg9 fullShare (csq x2) ∗ owns (c : Thread nD τ) arg10 fullShare (dec x2)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (logitsV x0 (cbt x2) (csq x2) (dec x2) x3 x4) ∗ owns (c : Thread nD τ) arg7 fullShare ((Rect.unit (s := S1x4096) (k0_off1 i) S1x512.size (Gen.k0_off1_inb i)).overlay d6 (lossV x0 (labelsAt i x1) (cbt x2) (csq x2) (dec x2) x3 x4)) ∗ owns (c : Thread nD τ) arg8 fullShare (cbt x2) ∗ owns (c : Thread nD τ) arg9 fullShare (csq x2) ∗ owns (c : Thread nD τ) arg10 fullShare (dec x2)) -∗ K ⟨⟩))
      ⊢ wp frame (wpE (defs₀ (F := F)) Variants.none c none) E (cc0__fused_kernel (F := F) i arg1 harg1 arg2 harg2 arg3 harg3 arg4 harg4 arg5 harg5 arg6 harg6 arg7 harg7 arg8 harg8 arg9 harg9 arg10 harg10) K := by
  rw [body_later i arg1 harg1 arg2 harg2 arg3 harg3 arg4 harg4 arg5 harg5 arg6 harg6 arg7 harg7 arg8 harg8 arg9 harg9 arg10 harg10 h]
  iintro ⟨H0, H1, H2, H3, H4, H5, H6, HS0, HS1, HS2, Hk⟩
  iapply (main_run c i arg1 harg1 arg2 harg2 arg3 harg3 arg4 harg4 arg5 harg5 arg6 harg6 arg7 harg7 arg8 harg8 arg9 harg9 arg10 harg10 x0 x1 x3 x4 (cbt x2) (csq x2) (dec x2) d6 E K)
  isplitl [H0]; · iexact H0
  isplitl [H1]; · iexact H1
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H3, H4, H5, H6, HS0, HS1, HS2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iexact HS2

end Cert.KernelIdeal

end
-- ==== Proof.Data.lean ====
/-
  The pipeline's proof data: what every window and the scratch hold, point by point. The inputs hold their blocks;
  the block of logits is named exactly; of the row of losses, which stays in place from point to point and is written
  back once, at the end, it is said that the columns of the points done so far hold their losses; the scratch holds
  the codebooks' three operands from the first point on.
-/
module

public import proofs.«01_k».proof.Proof.Operands
public import proofs.«01_k».proof.Proof.BodyRun
public import proofs.«01_k».proof.Proof.Gen.KernelIdeal.Frame
public import proofs.«01_k».proof.Proof.Gen.KernelIdeal.Points
public import Idealize.ShloMosaic.Lib.Pipeline.DatRel

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers, whole. -/
abbrev scr8 : Memref sig .tc .vmem S512x256 .f32 := Memref.whole cc0_scratch0
abbrev scr9 : Memref sig .tc .vmem S1x4096 .f32 := Memref.whole cc0_scratch1
abbrev scr10 : Memref sig .tc .vmem S4096x128 .f32 := Memref.whole cc0_scratch2

/-- The blocks the body reads: its 512 rows, and the labels, codebooks and weights, the same at every point. -/
def rowsB (c : Dev nD) (t : Fin cfg0.N) : Vec F S512x512 .f32 := iblk m c 0 t
def labelsB (c : Dev nD) : Vec F S1x4096 .i32 := iblk m c 1 t0_0
def codesB (c : Dev nD) : Vec F S4096x32 .f32 := iblk m c 2 t0_0
def weightB1 (c : Dev nD) : Vec F S512x2048 .f32 := iblk m c 3 t0_0
def weightB2 (c : Dev nD) : Vec F S2048x100 .f32 := iblk m c 4 t0_0

theorem iblk1_eq (c : Dev nD) (t : Fin cfg0.N) : iblk m c 1 t = labelsB m c := rfl
theorem iblk2_eq (c : Dev nD) (t : Fin cfg0.N) : iblk m c 2 t = codesB m c := rfl
theorem iblk3_eq (c : Dev nD) (t : Fin cfg0.N) : iblk m c 3 t = weightB1 m c := rfl
theorem iblk4_eq (c : Dev nD) (t : Fin cfg0.N) : iblk m c 4 t = weightB2 m c := rfl

/-- What point `t` leaves in the block of logits, and its 512 losses. -/
def logitsAt (c : Dev nD) (t : Fin cfg0.N) : Vec F S512x100 .f32 :=
  logitsV (rowsB m c t) (cbt (codesB m c)) (csq (codesB m c)) (dec (codesB m c)) (weightB1 m c) (weightB2 m c)
def lossAt (c : Dev nD) (t : Fin cfg0.N) : Vec F S1x512 .f32 :=
  lossV (rowsB m c t) (labelsAt (grid0.coords t) (labelsB m c)) (cbt (codesB m c)) (csq (codesB m c)) (dec (codesB m c)) (weightB1 m c) (weightB2 m c)

/-- Every point's losses, in their columns. -/
def lossRow (c : Dev nD) : Vec F S1x4096 .f32 := fun y =>
  lossAt m c ⟨(y 1).val / 512, by have := (y 1).isLt; change (y 1).val < 4096 at this; rw [show cfg0.N = 8 from N_0]; omega⟩
    (ix2 (n0 := 1) (n1 := 512) 0 ⟨(y 1).val % 512, Nat.mod_lt _ (by decide)⟩)

/-- The window held to a predicate: the row of losses. -/
def marked : Fin 7 → Bool := fun w => w.val == 6

/-- After point `t` the columns of the points up to `t` hold their losses. -/
def Done (c : Dev nD) : (w : Fin 7) → Fin cfg0.N → ((cfg0.win w).block.Idx → Elt F (cfg0.win w).elt) → Prop
  | ⟨6, _⟩, t, X => ∀ y : S1x4096.Idx, (y 1).val < 512 * (t.val + 1) → (X : Vec F S1x4096 .f32) y = lossRow m c y
  | _, _, _ => True

/-- The scratch before point `t`: anything at the start, the codebooks' operands afterwards. -/
def scratch (c : Dev nD) (n : ℕ) : sProp 𝕄 :=
  if n = 0 then Pipeline.ΦA spec0 c
  else iprop(iprop(owns (c : Thread nD τ) scr8 fullShare (cbt (codesB m c)) ∗ owns (c : Thread nD τ) scr9 fullShare (csq (codesB m c)) ∗ owns (c : Thread nD τ) scr10 fullShare (dec (codesB m c))) ∗ (∃ r, prngReg c r))

theorem scratch_start (c : Dev nD) : (Pipeline.ΦA spec0 c : sProp 𝕄)
      = iprop(iprop((∃ d, owns (c : Thread nD τ) scr8 fullShare d) ∗ (∃ d, owns (c : Thread nD τ) scr9 fullShare d) ∗ (∃ d, owns (c : Thread nD τ) scr10 fullShare d)) ∗ (∃ r, prngReg c r)) := by
  unfold Pipeline.ΦA
  rw [scopedRest0_eq]
  simp only [scr8, scr9, scr10, owns_whole]
  try rfl

/-- The proof data on core `c`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => logitsAt m c t
    | ⟨6, h⟩ => Pipeline.Dat.unnamed (cfg := cfg0) ⟨6, h⟩ t
  Φ t := scratch m c t.val
  q _ := fullShare
  owed _ := 0

/-- The same data, the row of losses held to `Done`. -/
def rdats (c : Dev nD) : RDat τ (Elt F) Unit ℕ (UR sig nD τ) ℕ cfg0 c := (dats m c).toRRel marked (Done m c)

theorem dats_A (c : Dev nD) (w : Fin cfg0.W) : (dats m c).A w = V m c (Pipeline.arrRef spec0 w) := by dsimp only [dats]
theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = iblk m c 4 t := by dsimp only [dats]
theorem after_5 (c : Dev nD) (t : Fin cfg0.N) : (dats m c).after 5 t = logitsAt m c t := by dsimp only [dats]
theorem before_0 (c : Dev nD) (t : Fin cfg0.N) (d) : (dats m c).before 0 t d = iblk m c 0 t :=
  before0_0_of m (dats m c) (dats_A m c 0) (after_0 m c) t d
theorem before_1 (c : Dev nD) (t : Fin cfg0.N) (d) : (dats m c).before 1 t d = iblk m c 1 t :=
  before0_1_of m (dats m c) (dats_A m c 1) (after_1 m c) t d
theorem before_2 (c : Dev nD) (t : Fin cfg0.N) (d) : (dats m c).before 2 t d = iblk m c 2 t :=
  before0_2_of m (dats m c) (dats_A m c 2) (after_2 m c) t d
theorem before_3 (c : Dev nD) (t : Fin cfg0.N) (d) : (dats m c).before 3 t d = iblk m c 3 t :=
  before0_3_of m (dats m c) (dats_A m c 3) (after_3 m c) t d
theorem before_4 (c : Dev nD) (t : Fin cfg0.N) (d) : (dats m c).before 4 t d = iblk m c 4 t :=
  before0_4_of m (dats m c) (dats_A m c 4) (after_4 m c) t d

/-- The condition holds at the first point alone. -/
theorem isFirst_iff (t : Fin cfg0.N) : isFirst (grid0.coords t) ↔ t.val = 0 := by
  have ht : t.val < 8 := Nat.lt_of_lt_of_eq t.isLt N_0
  have e0 : (grid0.coords t 0).val = t.val / 1 % 8 := Pipeline.Grid.coords_val t 0 (by decide) rfl
  have e1 : (grid0.coords t 0).val = t.val := by omega
  simp only [isFirst, e1]
  word_cmp

/-- What the row of losses may hold when point `t` begins: the columns of the earlier points hold their losses. -/
theorem found (c : Dev nD) (t : Fin cfg0.N) (Y : (cfg0.win 6).block.Idx → Elt F (cfg0.win 6).elt) (h : (rdats m c).Finds 6 t Y)
    (y : S1x4096.Idx) (hy : (y 1).val < 512 * t.val) : (Y : Vec F S1x4096 .f32) y = lossRow m c y := by
  have ht : t.val < 8 := Nat.lt_of_lt_of_eq t.isLt N_0
  by_cases h0 : t.val = 0
  · rw [h0] at hy; omega
  rcases (RDat.finds_of_pos (rdats m c) (w := 6) (t := t) rfl h0 Y).mp h with hf | hl
  · have := (flush0_6 _).mp hf
    simp only at this
    omega
  · have hd : Done m c 6 _ Y := Dat.toRRel_leaves (dats m c) (by rfl) hl
    refine hd y ?_
    show (y 1).val < 512 * (t.val - 1 + 1)
    omega

/-- Point `t`'s losses put over its columns: the columns up to it hold their losses. -/
theorem done_step (c : Dev nD) (t : Fin cfg0.N) (Y : Vec F S1x4096 .f32)
    (hY : ∀ y : S1x4096.Idx, (y 1).val < 512 * t.val → Y y = lossRow m c y) :
    Done m c 6 t ((Rect.unit (s := S1x4096) (k0_off1 (grid0.coords t)) S1x512.size (Gen.k0_off1_inb (grid0.coords t))).overlay Y (lossAt m c t)) := by
  intro y hy
  have ht : t.val < 8 := Nat.lt_of_lt_of_eq t.isLt N_0
  have e1 : (grid0.coords t 0).val = t.val := by
    have e0 : (grid0.coords t 0).val = t.val / 1 % 8 := Pipeline.Grid.coords_val t 0 (by decide) rfl
    omega
  have hoff := Gen.k0_off1_eq (grid0.coords t)
  rw [e1] at hoff
  have hy0 := (y 0).isLt
  change (y 0).val < 1 at hy0
  by_cases hlt : (y 1).val < 512 * t.val
  · refine (Rect.overlay_of_not_mem _ _ _ ?_).trans (hY y hlt)
    intro hmem
    have := (Rect.mem_set_unit.mp hmem 1).1
    rw [hoff] at this
    change 512 * t.val ≤ (y 1).val at this
    omega
  · have e : y = (Rect.unit (s := S1x4096) (k0_off1 (grid0.coords t)) S1x512.size (Gen.k0_off1_inb (grid0.coords t))).emb
        (ix2 (n0 := 1) (n1 := 512) 0 ⟨(y 1).val - 512 * t.val, by omega⟩) := by
      funext a
      apply Fin.ext
      fin_cases a
      · show (y 0).val = k0_off1 (grid0.coords t) 0 + 1 * 0
        rw [hoff]
        show (y 0).val = 0 + 1 * 0
        omega
      · show (y 1).val = k0_off1 (grid0.coords t) 1 + 1 * ((y 1).val - 512 * t.val)
        rw [hoff]
        show (y 1).val = 512 * t.val + 1 * ((y 1).val - 512 * t.val)
        omega
    refine (congrArg _ e).trans ((Rect.overlay_emb _ _ _ _).trans ?_)
    have h1 : (y 1).val / 512 = t.val := by omega
    have h2 : (y 1).val % 512 = (y 1).val - 512 * t.val := by omega
    unfold lossRow
    have ht' : (⟨(y 1).val / 512, by rw [h1]; exact t.isLt⟩ : Fin cfg0.N) = t := Fin.ext h1
    rw [ht']
    exact congrArg _ (congrArg (ix2 (n0 := 1) (n1 := 512) 0) (Fin.ext h2.symm))

end Cert.KernelIdeal

end
-- ==== Proof.Launch.lean ====
/-
  The body at every grid point keeps the proof data of `Data`, and so the launch: from any memory every execution
  ends, and every final state holds what those data say of the windows' arrays.
-/
module

public import proofs.«01_k».proof.Proof.Operands
public import proofs.«01_k».proof.Proof.Data
public import proofs.«01_k».proof.Proof.Gen.KernelIdeal.Frame
public import proofs.«01_k».proof.Proof.Gen.KernelIdeal.Points
public import Idealize.ShloMosaic.Lib.Pipeline.DatRel

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, and what it returns. -/
def bodyPre (c : Dev nD) (t : Fin cfg0.N) : sProp 𝕄 :=
  iprop((dats m c).Φ t.castSucc ∗ (dats m c).owesAt () t.castSucc
    ∗ (∃ d, owns (c : Thread nD τ) (win0_0.stage (cfg0.slots t 0)) fullShare ((dats m c).before 0 t d))
    ∗ (∃ d, owns (c : Thread nD τ) (win0_1.stage (cfg0.slots t 1)) fullShare ((dats m c).before 1 t d))
    ∗ (∃ d, owns (c : Thread nD τ) (win0_2.stage (cfg0.slots t 2)) fullShare ((dats m c).before 2 t d))
    ∗ (∃ d, owns (c : Thread nD τ) (win0_3.stage (cfg0.slots t 3)) fullShare ((dats m c).before 3 t d))
    ∗ (∃ d, owns (c : Thread nD τ) (win0_4.stage (cfg0.slots t 4)) fullShare ((dats m c).before 4 t d))
    ∗ (∃ d, owns (c : Thread nD τ) (win0_5.stage (cfg0.slots t 5)) fullShare ((dats m c).before 5 t d))
    ∗ (∃ Y, ⌜(rdats m c).Finds 6 t Y⌝ ∗ owns (c : Thread nD τ) (win0_6.stage (cfg0.slots t 6)) fullShare Y))
def bodyPost (c : Dev nD) (t : Fin cfg0.N) : sProp 𝕄 :=
  iprop((dats m c).Φ t.succ ∗ (dats m c).owesAt () t.succ
    ∗ owns (c : Thread nD τ) (win0_0.stage (cfg0.slots t 0)) fullShare ((dats m c).after 0 t)
    ∗ owns (c : Thread nD τ) (win0_1.stage (cfg0.slots t 1)) fullShare ((dats m c).after 1 t)
    ∗ owns (c : Thread nD τ) (win0_2.stage (cfg0.slots t 2)) fullShare ((dats m c).after 2 t)
    ∗ owns (c : Thread nD τ) (win0_3.stage (cfg0.slots t 3)) fullShare ((dats m c).after 3 t)
    ∗ owns (c : Thread nD τ) (win0_4.stage (cfg0.slots t 4)) fullShare ((dats m c).after 4 t)
    ∗ owns (c : Thread nD τ) (win0_5.stage (cfg0.slots t 5)) fullShare ((dats m c).after 5 t)
    ∗ (∃ X, ⌜Done m c 6 t X⌝ ∗ owns (c : Thread nD τ) (win0_6.stage (cfg0.slots t 6)) fullShare X))

set_option maxHeartbeats 1600000 in
/-- The body at any point. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m c).owesAt () t.succ = (dats m c).owesAt () t.castSucc from rfl,
    after_0, after_1, after_2, after_3, after_4, after_5, iblk1_eq, iblk2_eq, iblk3_eq, iblk4_eq, show iblk m c 0 t = rowsB m c t from rfl]
  rw [show (dats m c).Φ t.castSucc = scratch m c t.val from rfl,
    show (dats m c).Φ t.succ = scratch m c (t.val + 1) from rfl]
  rw [show scratch m c (t.val + 1) = _ from if_neg (Nat.succ_ne_zero _)]
  by_cases h0 : t.val = 0
  · rw [show scratch m c t.val = _ from if_pos h0, scratch_start]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%Y, %hY, H6⟩⟩
    iapply (first_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr8 (Memref.isWhole_whole _) scr9 (Memref.isWhole_whole _) scr10 (Memref.isWhole_whole _)
      (rowsB m c t) (labelsB m c) (codesB m c) (weightB1 m c) (weightB2 m c) Y Set.univ _ ((isFirst_iff t).mpr h0))
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _
    isplitr
    · ipureintro; exact done_step m c t Y (found m c t Y hY)
    iexact H6
  · rw [show scratch m c t.val = _ from if_neg h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%Y, %hY, H6⟩⟩
    iapply (later_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr8 (Memref.isWhole_whole _) scr9 (Memref.isWhole_whole _) scr10 (Memref.isWhole_whole _)
      (rowsB m c t) (labelsB m c) (codesB m c) (weightB1 m c) (weightB2 m c) Y Set.univ _ (fun h => h0 ((isFirst_iff t).mp h)))
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _
    isplitr
    · ipureintro; exact done_step m c t Y (found m c t Y hY)
    iexact H6

/-- The body table's row at point `t`'s slots is the body. -/
theorem defs₀_at (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligationRel (dats m c) (defs₀ (F := F)) Variants.none () Set.univ marked (Done m c) := fun t => by
  rw [bigSep_W0, bigSep_W0, defs₀_at]
  exact triple_restated (body_sound m c t) rfl .rfl fun _ => .rfl

theorem enters (c : Dev nD) : (Pipeline.ΦA spec0 c : sProp 𝕄) ⊢ (rdats m c).Φ 0 := by
  show (Pipeline.ΦA spec0 c : sProp 𝕄) ⊢ scratch m c 0
  rw [show scratch m c 0 = _ from if_pos rfl]

theorem leaves (c : Dev nD) : (rdats m c).Φ (Fin.last cfg0.N) ⊢ (Pipeline.ΦA spec0 c : sProp 𝕄) := by
  show scratch m c cfg0.N ⊢ (Pipeline.ΦA spec0 c : sProp 𝕄)
  rw [show scratch m c cfg0.N = _ from if_neg (by rw [show cfg0.N = 8 from N_0]; decide), scratch_start]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- The launch: every execution ends, the arrays as the proof data say and every counter at zero. -/
theorem run_main : θ_run defs (onTc (τ := τ) (main (F := F))) (s₀ m ρ)
    (fun r => Pipeline.RDat.FramePost (cfgs 0) (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m c).share_full fun _ => rfl)
    (howed := fun _ _ => rfl) (V := V m) (hmain := hmain m Variants.none) (hA := dats_A m)
    (hin := enters m) (hout := leaves m)

end Cert.KernelIdeal

end
-- ==== Proof.Kept.lean ====
/-
  After a run the arguments are as they were launched.
-/
module

public import proofs.«01_k».proof.Proof.Launch
public import Idealize.ShloMosaic.Lib.Pipeline.ArrRel

@[expose] public section

set_option maxRecDepth 16384

noncomputable section

namespace Cert.KernelIdeal

open Idealize.ShloMosaic Idealize.ShloMosaic.TcCoe Idealize.ShloMosaic.Tactic
open Idealize.SL.Sem Cert.KernelIdeal.Gen
open Idealize.ShloMosaic.Pipeline (Dat RDat)

variable {F : FTy → Type} [FloatOps F]

variable (m : (ℓ : Loc nD τ sig) → Buf (Elt F) ℓ) (ρ : Dev nD → PrngReg)

/-- The final states the launch reaches. -/
abbrev Ended (r : PUnit × MemSt nD τ sig (Elt F)) : Prop := Pipeline.RDat.FramePost (cfgs 0) (rdats m) (V m) r

variable {m}

/-- A window that is only read keeps its array. -/
theorem kept {r : PUnit × MemSt nD τ sig (Elt F)} (h : Ended m r) (c : Dev nD) (w : Fin cfg0.W) (hin : (cfg0.win w).isOut = false) :
    r.2.mem ((cfg0.spec w).arr.view.loc (c.tc : Thread nD τ)) = V m c (Pipeline.arrRef spec0 w) :=
  (RDat.FramePost.arr_in h c w hin).trans (dats_A m c w)

/-- The arguments end as they were launched. -/
theorem args_kept {r : PUnit × MemSt nD τ sig (Elt F)} (h : Ended m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(kept h c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (kept h c 3 rfl).trans (V_main_arg3 m c),
    ((h c).2 main_arg4 (Pipeline.mem_restRefs_of main_arg4 (by decide) (by decide))).trans (V_main_arg4 m c),
    (kept h c 4 rfl).trans (V_main_arg5 m c),
    ((h c).2 main_arg6 (Pipeline.mem_restRefs_of main_arg6 (by decide) (by decide))).trans (V_main_arg6 m c)⟩

end Cert.KernelIdeal

end
-- ==== Proof.Arrays.lean ====
/-
  What the idealized kernel's arrays hold after its run: the logits tile by tile, and the row of losses.
-/
module

public import proofs.«01_k».proof.Proof.Kept
public import Idealize.ShloMosaic.Lib.Pipeline.ArrRel
public import Idealize.ShloMosaic.Lib.Pipeline.ValueKit.Geometry

@[expose] public section

set_option maxRecDepth 16384

noncomputable section

namespace Cert.KernelIdeal

open Idealize.ShloMosaic Idealize.ShloMosaic.TcCoe Idealize.ShloMosaic.Tactic
open Idealize.SL.Sem Cert.KernelIdeal.Gen
open Idealize.ShloMosaic.Pipeline (Dat RDat)

variable {F : FTy → Type} [FloatOps F]

variable {m : (ℓ : Loc nD τ sig) → Buf (Elt F) ℓ}

/-- The point whose tile holds row `n`. -/
def pointOf (n : Fin 4096) : Fin cfg0.N := ⟨n.val / 512, by have := n.isLt; rw [show cfg0.N = 8 from N_0]; omega⟩

/-- The logits of every row, from the tiles. -/
def allLogits (m : (ℓ : Loc nD τ sig) → Buf (Elt F) ℓ) (c : Dev nD) : Vec F S4096x100 .f32 := fun i =>
  logitsAt m c (pointOf (i 0)) (ix2 (n0 := 512) (n1 := 100) ⟨(i 0).val % 512, Nat.mod_lt _ (by decide)⟩ (i 1))

/-- Under a tile's index the array of logits holds the tile. -/
theorem tile_apply (m : (ℓ : Loc nD τ sig) → Buf (Elt F) ℓ) (c : Dev nD) (t : Fin cfg0.N) (y : S512x100.Idx) (i : S4096x100.Idx)
    (h0 : (i 0).val = t.val * 512 + (y 0).val) (h1 : (i 1).val = (y 1).val) : logitsAt m c t y = allLogits m c i := by
  have hy : (y 0).val < 512 := (y 0).isLt
  have et : pointOf (i 0) = t := Fin.ext (by show (i 0).val / 512 = t.val; omega)
  have ey : ix2 (n0 := 512) (n1 := 100) ⟨(i 0).val % 512, Nat.mod_lt _ (by decide)⟩ (i 1) = y := by
    funext a
    match a with
    | ⟨0, _⟩ => exact Fin.ext (by show (i 0).val % 512 = (y 0).val; omega)
    | ⟨1, _⟩ => exact Fin.ext h1
  unfold allLogits
  rw [et]
  exact congrArg _ ey.symm

/-- The tile of logits at point `t` is the `t`-th along the rows. -/
theorem index5 : ∀ t : Fin cfg0.N, win0_5.index t 0 = t.val ∧ win0_5.index t 1 = 0 := by decide +kernel

/-- The array of logits holds every point's tile. -/
theorem logits_end {r : PUnit × MemSt nD τ sig (Elt F)} (h : Ended m r) (c : Dev nD) :
    r.2.mem ((c.tc : Thread nD τ).loc main_v2_0) = allLogits m c := by
  obtain ⟨after, hL, hA⟩ := RDat.FramePost.exists_exact h c
  refine (hA 5).trans ?_
  refine Dat.arrAt_eq_of_covers _ 5 _ (by decide +kernel) fun t hf y => ?_
  have e : after 5 t = logitsAt m c t := by
    have hl := hL 5 t (flush0_5 t)
    obtain ⟨_, _, hX⟩ := hl
    rw [show rdats m c = (dats m c).toRRel marked (Done m c) from rfl, Dat.toRRel_after_of_eq_false _ rfl] at hX
    exact hX.trans (after_5 m c t)
  rw [RDat.withAfter_after, e]
  blk_simp
  have h0 : (((win0_5.blk t).view.emb y : S4096x100.Idx) 0).val = t.val * 512 + (y 0).val :=
    (Pipeline.Window.rect_emb_val win0_5 t y 0).trans (congrArg (· * 512 + (y 0).val) (index5 t).1)
  have h1 : (((win0_5.blk t).view.emb y : S4096x100.Idx) 1).val = (y 1).val :=
    Pipeline.Window.rect_emb_val_of_index_zero win0_5 t 1 (index5 t).2 y
  exact tile_apply m c t y _ h0 h1

/-- The row of losses is written back once, at the last point. -/
theorem whole_last : (cfg0.win 6).WholeAt (⟨7, by decide⟩ : Fin cfg0.N) := by decide +kernel

/-- The row of losses holds every point's losses. -/
theorem losses_end {r : PUnit × MemSt nD τ sig (Elt F)} (h : Ended m r) (c : Dev nD) :
    r.2.mem ((c.tc : Thread nD τ).loc main_v2_1) = lossRow m c := by
  obtain ⟨X, hX, hA⟩ := RDat.ArrAt.emb_eq_of_wholeAt ((h c).1 6) whole_last
  have hD : Done m c 6 (⟨7, by decide⟩ : Fin cfg0.N) X := Dat.toRRel_leaves (dats m c) rfl hX
  funext i
  refine (hA i).trans ?_
  refine hD i ?_
  have := (i 1).isLt
  change (i 1).val < 4096 at this
  exact this

end Cert.KernelIdeal

end
-- ==== Proof.Blocks.lean ====
/-
  The blocks the body reads, as elements of the arguments: tile `t` of the rows, the labels and the codebooks after
  their reshapes, and the two weights whole.
-/
module

public import proofs.«01_k».proof.Proof.Data
public import Idealize.ShloMosaic.Lib.Pipeline.ValueKit.Geometry
public import Idealize.ShloMosaic.Lib.Pipeline.Value

@[expose] public section

set_option maxRecDepth 16384

noncomputable section

namespace Cert.KernelIdeal

open Idealize.ShloMosaic Idealize.ShloMosaic.TcCoe Idealize.ShloMosaic.Tactic
open Idealize.SL.Sem Cert.KernelIdeal.Gen

variable {F : FTy → Type} [FloatOps F]

variable (m : (ℓ : Loc nD τ sig) → Buf (Elt F) ℓ) (c : Dev nD)

/-- The labels and the codebooks as the call finds them. -/
theorem labels_entry : V m c main_v1 = shapeCast (s := S4096) S1x4096 (m ((c : Thread nD τ).loc main_arg1)) Facts₀.shapeCasts_S4096_S1x4096 := by
  show StableHlo.after hostOps0 (fun b => m (c, b)) (Proc.devRef .tc main_v1) = _
  unfold hostOps0
  after_results_simp <;> rfl
theorem codes_entry : V m c main_v0 = shapeCast (s := S16x256x32) S4096x32 (m ((c : Thread nD τ).loc main_arg2)) Facts₀.shapeCasts_S16x256x32_S4096x32 := by
  show StableHlo.after hostOps0 (fun b => m (c, b)) (Proc.devRef .tc main_v0) = _
  unfold hostOps0
  after_results_simp <;> rfl

theorem index0 : ∀ t : Fin cfg0.N, win0_0.index t 0 = t.val ∧ win0_0.index t 1 = 0 := by decide +kernel
theorem index1 : win0_1.index t0_0 0 = 0 ∧ win0_1.index t0_0 1 = 0 := by decide +kernel
theorem index2 : win0_2.index t0_0 0 = 0 ∧ win0_2.index t0_0 1 = 0 := by decide +kernel
theorem index3 : win0_3.index t0_0 0 = 0 ∧ win0_3.index t0_0 1 = 0 := by decide +kernel
theorem index4 : win0_4.index t0_0 0 = 0 ∧ win0_4.index t0_0 1 = 0 := by decide +kernel

/-- Row `r` of tile `t` is row `512·t + r` of the argument. -/
theorem rows_apply (t : Fin cfg0.N) (r j : Fin 512) (n : Fin 4096) (hn : n.val = t.val * 512 + r.val) :
    rowsB m c t (ix2 (n0 := 512) (n1 := 512) r j) = m ((c : Thread nD τ).loc main_arg0) (ix2 (n0 := 4096) (n1 := 512) n j) := by
  refine Eq.trans (b := V m c main_arg0 ((win0_0.blk t).view.emb (ix2 (n0 := 512) (n1 := 512) r j))) rfl ?_
  rw [V_main_arg0]
  refine congrArg (m ((c : Thread nD τ).loc main_arg0)) ?_
  funext a
  match a with
  | ⟨0, _⟩ => exact Fin.ext (((Pipeline.Window.rect_emb_val win0_0 t (ix2 (n0 := 512) (n1 := 512) r j) 0).trans (congrArg (· * 512 + r.val) (index0 t).1)).trans hn.symm)
  | ⟨1, _⟩ => exact Fin.ext (Pipeline.Window.rect_emb_val_of_index_zero win0_0 t 1 (index0 t).2 _)

/-- The two weights are the arguments whole. -/
theorem weight1_eq : weightB1 m c = m ((c : Thread nD τ).loc main_arg3) := by
  funext i
  refine Eq.trans (b := V m c main_arg3 ((win0_3.blk t0_0).view.emb i)) rfl ?_
  rw [V_main_arg3]
  refine congrArg (m ((c : Thread nD τ).loc main_arg3)) ?_
  funext a
  match a with
  | ⟨0, _⟩ => exact Fin.ext (Pipeline.Window.rect_emb_val_of_index_zero win0_3 t0_0 0 index3.1 _)
  | ⟨1, _⟩ => exact Fin.ext (Pipeline.Window.rect_emb_val_of_index_zero win0_3 t0_0 1 index3.2 _)
theorem weight2_eq : weightB2 m c = m ((c : Thread nD τ).loc main_arg5) := by
  funext i
  refine Eq.trans (b := V m c main_arg5 ((win0_4.blk t0_0).view.emb i)) rfl ?_
  rw [V_main_arg5]
  refine congrArg (m ((c : Thread nD τ).loc main_arg5)) ?_
  funext a
  match a with
  | ⟨0, _⟩ => exact Fin.ext (Pipeline.Window.rect_emb_val_of_index_zero win0_4 t0_0 0 index4.1 _)
  | ⟨1, _⟩ => exact Fin.ext (Pipeline.Window.rect_emb_val_of_index_zero win0_4 t0_0 1 index4.2 _)

/-- The block of labels and the block of codebooks are the reshaped arguments whole. -/
theorem labels_eq : labelsB m c = V m c main_v1 := by
  funext i
  refine Eq.trans (b := V m c main_v1 ((win0_1.blk t0_0).view.emb i)) rfl ?_
  refine congrArg (V m c main_v1) ?_
  funext a
  match a with
  | ⟨0, _⟩ => exact Fin.ext (Pipeline.Window.rect_emb_val_of_index_zero win0_1 t0_0 0 index1.1 _)
  | ⟨1, _⟩ => exact Fin.ext (Pipeline.Window.rect_emb_val_of_index_zero win0_1 t0_0 1 index1.2 _)
theorem codes_eq : codesB m c = V m c main_v0 := by
  funext i
  refine Eq.trans (b := V m c main_v0 ((win0_2.blk t0_0).view.emb i)) rfl ?_
  refine congrArg (V m c main_v0) ?_
  funext a
  match a with
  | ⟨0, _⟩ => exact Fin.ext (Pipeline.Window.rect_emb_val_of_index_zero win0_2 t0_0 0 index2.1 _)
  | ⟨1, _⟩ => exact Fin.ext (Pipeline.Window.rect_emb_val_of_index_zero win0_2 t0_0 1 index2.2 _)

/-- Label `n` of the block. -/
theorem labels_apply (n : Fin 4096) :
    labelsB m c (ix2 (n0 := 1) (n1 := 4096) 0 n) = m ((c : Thread nD τ).loc main_arg1) (ix1 (n0 := 4096) n) := by
  rw [labels_eq, labels_entry]
  refine shapeCast_apply _ _ _ _ ?_
  rw [Shape.rowMajor_val_one, Shape.rowMajor_val_two]
  show n.val = 0 * 4096 + n.val
  omega

/-- Row `256·g + k` of the block of codebooks is code `k` of codebook `g`. -/
theorem codes_apply (q : Fin 4096) (g : Fin 16) (k : Fin 256) (s : Fin 32) (hq : q.val = 256 * g.val + k.val) :
    codesB m c (ix2 (n0 := 4096) (n1 := 32) q s) = m ((c : Thread nD τ).loc main_arg2) (ix3 (n0 := 16) (n1 := 256) (n2 := 32) g k s) := by
  rw [codes_eq, codes_entry]
  refine shapeCast_apply _ _ _ _ ?_
  rw [Shape.rowMajor_val_three, Shape.rowMajor_val_two]
  show (g.val * 256 + k.val) * 32 + s.val = q.val * 32 + s.val
  omega

/-- The labels point `t` reads: its 512 columns of the row. -/
theorem labelsAt_apply (t : Fin cfg0.N) (r : Fin 512) (n : Fin 4096) (hn : n.val = t.val * 512 + r.val) :
    labelsAt (grid0.coords t) (labelsB m c) (ix2 (n0 := 1) (n1 := 512) 0 r) = m ((c : Thread nD τ).loc main_arg1) (ix1 (n0 := 4096) n) := by
  have hoff := Gen.k0_off1_eq (grid0.coords t)
  have e0 : (grid0.coords t 0).val = t.val / 1 % 8 := Pipeline.Grid.coords_val t 0 (by decide) rfl
  have ht : t.val < 8 := Nat.lt_of_lt_of_eq t.isLt N_0
  refine Eq.trans ?_ (labels_apply m c n)
  refine congrArg (labelsB m c) ?_
  funext a
  match a with
  | ⟨0, _⟩ => exact Fin.ext (by show k0_off1 (grid0.coords t) 0 + 1 * 0 = 0; rw [hoff]; rfl)
  | ⟨1, _⟩ => exact Fin.ext (by show k0_off1 (grid0.coords t) 1 + 1 * r.val = n.val; rw [hoff]; show 512 * (grid0.coords t 0).val + 1 * r.val = n.val; omega)

end Cert.KernelIdeal
-- ==== Proof.Consts.lean ====
/- The float constants of the two programs, as extended reals. -/
module

public import Idealize.ShloMosaic.PureOps.Ideal

@[expose] public section

namespace Cert.Consts

open Idealize.ShloMosaic

theorem ofBits_inf : Ideal.ofBits .f32 0x7F800000#32 = (⊤ : EReal) := by
  simp [Ideal.ofBits, Ideal.ieee, -EReal.coe_mul]

theorem ofBits_neg_inf : Ideal.ofBits .f32 0xFF800000#32 = (⊥ : EReal) := by
  simp [Ideal.ofBits, Ideal.ieee, -EReal.coe_mul]

theorem ofBits_neg_two : Ideal.ofBits .f32 0xC0000000#32 = ((-2 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_zero : Ideal.ofBits .f32 0x00000000#32 = (0 : EReal) := by
  simp [Ideal.ofBits, Ideal.ieee, -EReal.coe_mul]

end Cert.Consts
-- ==== Proof.PreArrays.lean ====
/- The precondition's eight arrays, each as one expression in the arguments; the last one also at an index. -/
module

public import proofs.«01_k».proof.Proof.Gen.Pre_tame
public import proofs.«01_k».proof.Proof.RefRun
public import proofs.«01_k».proof.Proof.Consts
public import Idealize.ShloMosaic.Lib.Pointwise

@[expose] public section

set_option maxRecDepth 16384

noncomputable section

namespace Cert.Tame

open Idealize.ShloMosaic

section Arrays

variable {F : FTy → Type} [FloatOps F]
  (x : Vec F Cert.Pre_tame.S4096x512 .f32) (y : Vec F Cert.Pre_tame.S4096 .i32) (cb : Vec F Cert.Pre_tame.S16x256x32 .f32)
  (w1 : Vec F Cert.Pre_tame.S512x2048 .f32) (b1 : Vec F Cert.Pre_tame.S2048 .f32) (w2 : Vec F Cert.Pre_tame.S2048x100 .f32)
  (b2 : Vec F Cert.Pre_tame.S100 .f32)

open Cert.Pre_tame Cert.Pre_tame.Gen

theorem fn_x : (Cert.Pre_tame.fn (F := F) x y cb w1 b1 w2 b2).1
    = cmpf .olt (Host.absf x) (broadcastInDim S4096x512 ![] bcast_S_S4096x512 (constant S_ .f32 0x7F800000#32)) := rfl
theorem fn_cb : (Cert.Pre_tame.fn (F := F) x y cb w1 b1 w2 b2).2.1
    = cmpf .olt (Host.absf cb) (broadcastInDim S16x256x32 ![] bcast_S_S16x256x32 (constant S_ .f32 0x7F800000#32)) := rfl
theorem fn_w1 : (Cert.Pre_tame.fn (F := F) x y cb w1 b1 w2 b2).2.2.1
    = cmpf .olt (Host.absf w1) (broadcastInDim S512x2048 ![] bcast_S_S512x2048 (constant S_ .f32 0x7F800000#32)) := rfl
theorem fn_w2 : (Cert.Pre_tame.fn (F := F) x y cb w1 b1 w2 b2).2.2.2.1
    = cmpf .olt (Host.absf w2) (broadcastInDim S2048x100 ![] bcast_S_S2048x100 (constant S_ .f32 0x7F800000#32)) := rfl
theorem fn_b1 : (Cert.Pre_tame.fn (F := F) x y cb w1 b1 w2 b2).2.2.2.2.1
    = cmpf .oeq b1 (broadcastInDim S2048 ![] bcast_S_S2048 (constant S_ .f32 0x00000000#32)) := rfl
theorem fn_b2 : (Cert.Pre_tame.fn (F := F) x y cb w1 b1 w2 b2).2.2.2.2.2.1
    = cmpf .oeq b2 (broadcastInDim S100 ![] bcast_S_S100 (constant S_ .f32 0x00000000#32)) := rfl
theorem fn_y : (Cert.Pre_tame.fn (F := F) x y cb w1 b1 w2 b2).2.2.2.2.2.2.1
    = andi (cmpi .sge y (broadcastInDim S4096 ![] bcast_S_S4096 (constantI S_ 32 0#32)))
        (cmpi .slt y (broadcastInDim S4096 ![] bcast_S_S4096 (constantI S_ 32 100#32))) := rfl
theorem fn_tie : (Cert.Pre_tame.fn (F := F) x y cb w1 b1 w2 b2).2.2.2.2.2.2.2
    = ori
        (cmpi .eq
          (broadcastInDim S4096x16x256 ![0, 1, 2] bcast_S4096x16x1_S4096x16x256_0_1_2
            (broadcastInDim S4096x16x1 ![0, 1] bcast_S4096x16_S4096x16x1_0_1
              (Cert.ReferenceIdeal.Steps.nearest (Cert.ReferenceIdeal.Steps.dist x cb))))
          (iotaInDim S4096x16x256 32 2))
        (cmpf .ogt (Cert.ReferenceIdeal.Steps.dist x cb)
          (broadcastInDim S4096x16x256 ![0, 1, 2] bcast_S4096x16x1_S4096x16x256_0_1_2
            (broadcastInDim S4096x16x1 ![0, 1] bcast_S4096x16_S4096x16x1_0_1
              (Host.reduce FloatOps.minimumf (Cert.ReferenceIdeal.Steps.dist x cb) (constant S_ .f32 0x7F800000#32)
                reducesTo_S4096x16x256_S4096x16_d2 h_S_)))) := rfl

/-- The last array at an index, of any distances and codes. -/
theorem tie_apply (d : Vec Ideal Cert.ReferenceIdeal.S4096x16x256 .f32) (c : Vec Ideal Cert.ReferenceIdeal.S4096x16 .i32)
    (n : Fin 4096) (m : Fin 16) (k : Fin 256) :
    ori
        (cmpi .eq
          (broadcastInDim S4096x16x256 ![0, 1, 2] bcast_S4096x16x1_S4096x16x256_0_1_2
            (broadcastInDim S4096x16x1 ![0, 1] bcast_S4096x16_S4096x16x1_0_1 c))
          (iotaInDim S4096x16x256 32 2))
        (cmpf .ogt d
          (broadcastInDim S4096x16x256 ![0, 1, 2] bcast_S4096x16x1_S4096x16x256_0_1_2
            (broadcastInDim S4096x16x1 ![0, 1] bcast_S4096x16_S4096x16x1_0_1
              (Host.reduce FloatOps.minimumf d (constant (F := Ideal) S_ .f32 0x7F800000#32)
                reducesTo_S4096x16x256_S4096x16_d2 h_S_)))) (ix3 n m k)
      = IntOp.ori (IntOp.cmpi CmpIPredicate.eq (c (ix2 n m)) (BitVec.ofNat 32 k.val))
          (BitVec.ofBool (decide (Finset.fold min (Ideal.ofBits FTy.f32 2139095040#32) (fun k => (d (ix3 n m k) : EReal)) Finset.univ < (d (ix3 n m k) : EReal)))) := by
  simp only [pointwise]
  rfl

end Arrays

end Cert.Tame

end
-- ==== Proof.Precondition.lean ====
/-
  The precondition, read element by element: the float arguments are arrays of reals, the biases are zero, every label
  numbers a task, and of every subvector there is one codeword, the one the reference finds, nearer than all others.
-/
module

public import proofs.«01_k».proof.Proof.PreArrays

@[expose] public section

set_option maxRecDepth 16384

noncomputable section

namespace Cert.Tame

open Idealize.ShloMosaic

/-- An extended real whose absolute value lies below infinity is a real. -/
theorem real_of_abs (a : EReal) (h : BitVec.ofBool (decide (max a (-a) < Ideal.ofBits FTy.f32 2139095040#32)) = 1#1) :
    ∃ r : ℝ, a = ((r : ℝ) : EReal) := by
  rw [show Ideal.ofBits .f32 2139095040#32 = (⊤ : EReal) from Consts.ofBits_inf] at h
  have hlt : max a (-a) < (⊤ : EReal) := by
    by_contra hn
    rw [decide_eq_false hn] at h
    exact absurd h (by decide)
  induction a with
  | bot => simp at hlt
  | top => simp at hlt
  | coe r => exact ⟨r, rfl⟩

theorem zero_of_eq (a : EReal) (h : BitVec.ofBool (decide (a = 0)) = 1#1) : a = 0 := by
  by_contra hn
  rw [decide_eq_false hn] at h
  exact absurd h (by decide)

/-- A word between zero and a hundred, read signed, numbers a task. -/
theorem word_lt (w : BitVec 32) (h : IntOp.andi (IntOp.cmpi CmpIPredicate.sge w 0#32) (IntOp.cmpi CmpIPredicate.slt w 100#32) = 1#1) :
    ∃ v : Fin 100, w = BitVec.ofNat 32 v.val := by
  unfold IntOp.andi IntOp.cmpi at h
  have h1 : BitVec.sle 0#32 w = true := by
    by_contra hn
    rw [Bool.not_eq_true] at hn
    simp [hn] at h
  have h2 : BitVec.slt w 100#32 = true := by
    by_contra hn
    rw [Bool.not_eq_true] at hn
    simp [hn] at h
  simp only [BitVec.sle, BitVec.slt, decide_eq_true_eq, BitVec.toInt_eq_toNat_cond, BitVec.toNat_ofNat] at h1 h2
  have hw := w.isLt
  refine ⟨⟨w.toNat, by split at h1 <;> split at h2 <;> omega⟩, ?_⟩
  apply BitVec.eq_of_toNat_eq
  simp only [BitVec.toNat_ofNat]
  omega

/-- Where every entry but one that a word names lies above the least, the word names an entry that lies below all others. -/
theorem code_of_tie (D : Fin 256 → EReal) (w : BitVec 32)
    (h : ∀ k : Fin 256, IntOp.ori (IntOp.cmpi CmpIPredicate.eq w (BitVec.ofNat 32 k.val))
      (BitVec.ofBool (decide (Finset.fold min (Ideal.ofBits FTy.f32 2139095040#32) D Finset.univ < D k))) = 1#1) :
    ∃ code : Fin 256, w = BitVec.ofNat 32 code.val ∧ ∀ k, k ≠ code → D code < D k := by
  rw [show Ideal.ofBits .f32 2139095040#32 = (⊤ : EReal) from Consts.ofBits_inf] at h
  have hk : ∀ k : Fin 256, w = BitVec.ofNat 32 k.val ∨ Finset.fold min (⊤ : EReal) D Finset.univ < D k := by
    intro k
    by_cases h1 : w = BitVec.ofNat 32 k.val
    · exact Or.inl h1
    · refine Or.inr ?_
      by_contra h2
      have := h k
      unfold IntOp.ori IntOp.cmpi at this
      rw [decide_eq_false h2] at this
      change BitVec.ofBool (w == BitVec.ofNat 32 k.val) ||| 0#1 = 1#1 at this
      rw [beq_eq_false_iff_ne.mpr h1] at this
      exact absurd this (by decide)
  obtain ⟨k₀, _, hk₀⟩ := Finset.exists_min_image Finset.univ D ⟨0, Finset.mem_univ _⟩
  have hmin : Finset.fold min (⊤ : EReal) D Finset.univ = D k₀ := by
    apply le_antisymm
    · exact ((Finset.le_fold_min (s := Finset.univ) (f := D) (b := (⊤ : EReal)) _).mp le_rfl).2 k₀ (Finset.mem_univ _)
    · exact (Finset.le_fold_min (s := Finset.univ) (f := D) (b := (⊤ : EReal)) _).mpr ⟨le_top, fun k hk => hk₀ k hk⟩
  rw [hmin] at hk
  have hw : w = BitVec.ofNat 32 k₀.val := (hk k₀).resolve_right (lt_irrefl _)
  refine ⟨k₀, hw, fun k hne => (hk k).resolve_left fun he => hne ?_⟩
  rw [hw] at he
  have := congrArg BitVec.toNat he
  simp only [BitVec.toNat_ofNat] at this
  apply Fin.ext
  omega

/-- The precondition of the seven arguments. -/
def Holds (x : Vec Ideal Cert.Pre_tame.S4096x512 .f32) (y : Vec Ideal Cert.Pre_tame.S4096 .i32) (cb : Vec Ideal Cert.Pre_tame.S16x256x32 .f32)
    (w1 : Vec Ideal Cert.Pre_tame.S512x2048 .f32) (b1 : Vec Ideal Cert.Pre_tame.S2048 .f32) (w2 : Vec Ideal Cert.Pre_tame.S2048x100 .f32)
    (b2 : Vec Ideal Cert.Pre_tame.S100 .f32) : Prop :=
  (∀ r j, ∃ a : ℝ, x (ix2 r j) = ((a : ℝ) : EReal)) ∧ (∀ m k s, ∃ a : ℝ, cb (ix3 m k s) = ((a : ℝ) : EReal))
  ∧ (∀ r j, ∃ a : ℝ, w1 (ix2 r j) = ((a : ℝ) : EReal)) ∧ (∀ r j, ∃ a : ℝ, w2 (ix2 r j) = ((a : ℝ) : EReal))
  ∧ (∀ k, b1 (ix1 k) = (0 : EReal)) ∧ (∀ k, b2 (ix1 k) = (0 : EReal))
  ∧ (∀ n, ∃ v : Fin 100, y (ix1 n) = BitVec.ofNat 32 v.val)
  ∧ ∀ n m, ∃ code : Fin 256,
      Cert.ReferenceIdeal.Steps.nearest (F := Ideal) (Cert.ReferenceIdeal.Steps.dist x cb) (ix2 n m) = BitVec.ofNat 32 code.val
      ∧ ∀ k, k ≠ code → (Cert.ReferenceIdeal.Steps.dist x cb (ix3 n m code) : EReal) < Cert.ReferenceIdeal.Steps.dist x cb (ix3 n m k)

variable (x : Vec Ideal Cert.Pre_tame.S4096x512 .f32) (y : Vec Ideal Cert.Pre_tame.S4096 .i32) (cb : Vec Ideal Cert.Pre_tame.S16x256x32 .f32)
  (w1 : Vec Ideal Cert.Pre_tame.S512x2048 .f32) (b1 : Vec Ideal Cert.Pre_tame.S2048 .f32) (w2 : Vec Ideal Cert.Pre_tame.S2048x100 .f32) (b2 : Vec Ideal Cert.Pre_tame.S100 .f32)

theorem x_real (h : (Cert.Pre_tame.fn (F := Ideal) x y cb w1 b1 w2 b2).1 = fun _ => 1#1) (r : Fin 4096) (j : Fin 512) :
    ∃ a : ℝ, x (ix2 r j) = ((a : ℝ) : EReal) := by
  have e := congrFun ((fn_x x y cb w1 b1 w2 b2).symm.trans h) (ix2 r j)
  simp only [pointwise] at e
  exact real_of_abs _ e

theorem cb_real (h : (Cert.Pre_tame.fn (F := Ideal) x y cb w1 b1 w2 b2).2.1 = fun _ => 1#1) (m : Fin 16) (k : Fin 256) (s : Fin 32) :
    ∃ a : ℝ, cb (ix3 m k s) = ((a : ℝ) : EReal) := by
  have e := congrFun ((fn_cb x y cb w1 b1 w2 b2).symm.trans h) (ix3 m k s)
  simp only [pointwise] at e
  exact real_of_abs _ e

theorem w1_real (h : (Cert.Pre_tame.fn (F := Ideal) x y cb w1 b1 w2 b2).2.2.1 = fun _ => 1#1) (r : Fin 512) (j : Fin 2048) :
    ∃ a : ℝ, w1 (ix2 r j) = ((a : ℝ) : EReal) := by
  have e := congrFun ((fn_w1 x y cb w1 b1 w2 b2).symm.trans h) (ix2 r j)
  simp only [pointwise] at e
  exact real_of_abs _ e

theorem w2_real (h : (Cert.Pre_tame.fn (F := Ideal) x y cb w1 b1 w2 b2).2.2.2.1 = fun _ => 1#1) (r : Fin 2048) (j : Fin 100) :
    ∃ a : ℝ, w2 (ix2 r j) = ((a : ℝ) : EReal) := by
  have e := congrFun ((fn_w2 x y cb w1 b1 w2 b2).symm.trans h) (ix2 r j)
  simp only [pointwise] at e
  exact real_of_abs _ e

theorem b1_zero (h : (Cert.Pre_tame.fn (F := Ideal) x y cb w1 b1 w2 b2).2.2.2.2.1 = fun _ => 1#1) (i : Fin 2048) :
    b1 (ix1 i) = (0 : EReal) := by
  have e := congrFun ((fn_b1 x y cb w1 b1 w2 b2).symm.trans h) (ix1 i)
  simp only [pointwise] at e
  exact zero_of_eq _ e

theorem b2_zero (h : (Cert.Pre_tame.fn (F := Ideal) x y cb w1 b1 w2 b2).2.2.2.2.2.1 = fun _ => 1#1) (i : Fin 100) :
    b2 (ix1 i) = (0 : EReal) := by
  have e := congrFun ((fn_b2 x y cb w1 b1 w2 b2).symm.trans h) (ix1 i)
  simp only [pointwise] at e
  exact zero_of_eq _ e

theorem label_lt (h : (Cert.Pre_tame.fn (F := Ideal) x y cb w1 b1 w2 b2).2.2.2.2.2.2.1 = fun _ => 1#1) (i : Fin 4096) :
    ∃ v : Fin 100, y (ix1 i) = BitVec.ofNat 32 v.val := by
  have e := congrFun ((fn_y x y cb w1 b1 w2 b2).symm.trans h) (ix1 i)
  simp only [pointwise] at e
  exact word_lt _ e

theorem code_of (h : (Cert.Pre_tame.fn (F := Ideal) x y cb w1 b1 w2 b2).2.2.2.2.2.2.2 = fun _ => 1#1) (n : Fin 4096) (m : Fin 16) :
    ∃ code : Fin 256,
      Cert.ReferenceIdeal.Steps.nearest (F := Ideal) (Cert.ReferenceIdeal.Steps.dist x cb) (ix2 n m) = BitVec.ofNat 32 code.val
      ∧ ∀ k, k ≠ code → (Cert.ReferenceIdeal.Steps.dist x cb (ix3 n m code) : EReal) < Cert.ReferenceIdeal.Steps.dist x cb (ix3 n m k) :=
  code_of_tie _ _ fun k =>
    (tie_apply _ _ n m k).symm.trans (congrFun ((fn_tie x y cb w1 b1 w2 b2).symm.trans h) (ix3 n m k))

theorem holds_of (h : (Cert.Pre_tame.fn (F := Ideal) x y cb w1 b1 w2 b2).1 = (fun _ => 1#1)
      ∧ (Cert.Pre_tame.fn (F := Ideal) x y cb w1 b1 w2 b2).2.1 = (fun _ => 1#1)
      ∧ (Cert.Pre_tame.fn (F := Ideal) x y cb w1 b1 w2 b2).2.2.1 = (fun _ => 1#1)
      ∧ (Cert.Pre_tame.fn (F := Ideal) x y cb w1 b1 w2 b2).2.2.2.1 = (fun _ => 1#1)
      ∧ (Cert.Pre_tame.fn (F := Ideal) x y cb w1 b1 w2 b2).2.2.2.2.1 = (fun _ => 1#1)
      ∧ (Cert.Pre_tame.fn (F := Ideal) x y cb w1 b1 w2 b2).2.2.2.2.2.1 = (fun _ => 1#1)
      ∧ (Cert.Pre_tame.fn (F := Ideal) x y cb w1 b1 w2 b2).2.2.2.2.2.2.1 = (fun _ => 1#1)
      ∧ (Cert.Pre_tame.fn (F := Ideal) x y cb w1 b1 w2 b2).2.2.2.2.2.2.2 = (fun _ => 1#1)) : Holds x y cb w1 b1 w2 b2 := by
  obtain ⟨h1, h2, h3, h4, h5, h6, h7, h8⟩ := h
  exact ⟨x_real x y cb w1 b1 w2 b2 h1, cb_real x y cb w1 b1 w2 b2 h2, w1_real x y cb w1 b1 w2 b2 h3, w2_real x y cb w1 b1 w2 b2 h4,
    b1_zero x y cb w1 b1 w2 b2 h5, b2_zero x y cb w1 b1 w2 b2 h6, label_lt x y cb w1 b1 w2 b2 h7, code_of x y cb w1 b1 w2 b2 h8⟩

end Cert.Tame

end
-- ==== Proof.Net.lean ====
/-
  One grid point's result, taken apart into its steps: the scores of one codebook (`score`), the mask of the least score
  of each row (`hot`), the masks side by side (`hots`), the product of each group of four codebooks with its operand
  (`part`), the parts side by side (`joined`) and the two layers (`layers`).
-/
module

public import proofs.«01_k».proof.Proof.BodyValues

@[expose] public section

set_option maxRecDepth 16384

noncomputable section

namespace Cert.KernelIdeal

open Idealize.ShloMosaic Cert.KernelIdeal.Gen

variable {F : FTy → Type} [FloatOps F]

/-- The scores of the codewords of one codebook: 32 columns of the rows times the codebook's operand, and its offsets. -/
def score (x : Vec F S512x512 .f32) (a : Vec F S32x256 .f32) (q : Vec F S1x4096 .f32) (o o' : ℕ)
    (h : S512x512.Slices ![0, o] S512x32) (h' : S1x4096.Slices ![0, o'] S1x256) : FVec F S512x256 .f32 :=
  addf
    (matmul dot_S512x32_S32x256_S512x256_1_0_0_1_n_n none (extractStridedSlice S512x32 ![0, o] x h) a
      (constant S512x256 .f32 0x00000000#32))
    (broadcastTo S512x256 (extractStridedSlice S1x256 ![0, o'] q h') broadcasts_S1x256_S512x256)

/-- One where a row has its least entry, zero elsewhere. -/
def hot (d : FVec F S512x256 .f32) : FVec F S512x256 .f32 :=
  select
    (cmpf .oeq d
      (broadcastTo S512x256
        (shapeCast S512x1 (multiReduction .minimumf [1] S512 d 0x7F800000#32 reduces_S512x256_S512 (.inl rfl) rfl)
          shapeCasts_S512_S512x1) broadcasts_S512x1_S512x256))
    (broadcast S512x256 (Scalar.ofBits .f32 0x3F800000#32)) (broadcast S512x256 (Scalar.ofBits .f32 0x00000000#32))

theorem sliceX (m : Fin 16) : S512x512.Slices ![0, 32 * m.val] S512x32 :=
  ⟨rfl, fun a => by
    fin_cases a
    · show 0 + 512 ≤ 512
      omega
    · show 32 * m.val + 32 ≤ 512
      omega⟩

theorem sliceQ (m : Fin 16) : S1x4096.Slices ![0, 256 * m.val] S1x256 :=
  ⟨rfl, fun a => by
    fin_cases a
    · show 0 + 1 ≤ 1
      omega
    · show 256 * m.val + 256 ≤ 4096
      omega⟩

theorem sliceH (g : Fin 4) : S512x4096.Slices ![0, 1024 * g.val] S512x1024 :=
  ⟨rfl, fun a => by
    fin_cases a
    · show 0 + 512 ≤ 512
      omega
    · show 1024 * g.val + 1024 ≤ 4096
      omega⟩

/-- The scores of codebook `m`. -/
def scores (x : Vec F S512x512 .f32) (s8 : Vec F S512x256 .f32) (s9 : Vec F S1x4096 .f32) (m : Fin 16) : FVec F S512x256 .f32 :=
  score x (rowsOf s8 m) s9 (32 * m.val) (256 * m.val) (sliceX m) (sliceQ m)

/-- Sixteen masks side by side. -/
def hots (H : Fin 16 → FVec F S512x256 .f32) : FVec F S512x4096 .f32 :=
  concatenate S512x4096 1
    [⟨S512x256, H 0⟩, ⟨S512x256, H 1⟩, ⟨S512x256, H 2⟩, ⟨S512x256, H 3⟩, ⟨S512x256, H 4⟩, ⟨S512x256, H 5⟩, ⟨S512x256, H 6⟩, ⟨S512x256, H 7⟩, ⟨S512x256, H 8⟩, ⟨S512x256, H 9⟩, ⟨S512x256, H 10⟩, ⟨S512x256, H 11⟩, ⟨S512x256, H 12⟩, ⟨S512x256, H 13⟩, ⟨S512x256, H 14⟩, ⟨S512x256, H 15⟩]
    concatenates_S512x256_S512x256_S512x256_S512x256_S512x256_S512x256_S512x256_S512x256_S512x256_S512x256_S512x256_S512x256_S512x256_S512x256_S512x256_S512x256_S512x4096_d1

/-- 1024 columns of the masks times their group's operand. -/
def part (hs : FVec F S512x4096 .f32) (d : Vec F S1024x128 .f32) (o : ℕ) (h : S512x4096.Slices ![0, o] S512x1024) :
    FVec F S512x128 .f32 :=
  matmul dot_S512x1024_S1024x128_S512x128_1_0_0_1_n_n none (extractStridedSlice S512x1024 ![0, o] hs h) d
    (constant S512x128 .f32 0x00000000#32)

/-- The four parts. -/
def parts (hs : FVec F S512x4096 .f32) (s10 : Vec F S4096x128 .f32) (g : Fin 4) : FVec F S512x128 .f32 :=
  part hs (grpOf s10 g) (1024 * g.val) (sliceH g)

/-- Four parts side by side. -/
def joined (P : Fin 4 → FVec F S512x128 .f32) : FVec F S512x512 .f32 :=
  concatenate S512x512 1 [⟨S512x128, P 0⟩, ⟨S512x128, P 1⟩, ⟨S512x128, P 2⟩, ⟨S512x128, P 3⟩]
    concatenates_S512x128_S512x128_S512x128_S512x128_S512x512_d1

/-- The two layers. -/
def layers (r : FVec F S512x512 .f32) (w1 : Vec F S512x2048 .f32) (w2 : Vec F S2048x100 .f32) : FVec F S512x100 .f32 :=
  matmul dot_S512x2048_S2048x100_S512x100_1_0_0_1_n_n none
    (maximumf
      (matmul dot_S512x512_S512x2048_S512x2048_1_0_0_1_n_n none r w1 (constant S512x2048 .f32 0x00000000#32))
      (broadcast S512x2048 (Scalar.ofBits .f32 0x00000000#32)))
    w2 (constant S512x100 .f32 0x00000000#32)

/-- The largest logit of each row plus the logarithm of the sum of the exponentials of the differences from it. -/
def lse (l : FVec F S512x100 .f32) : FVec F S512 .f32 :=
  addf
    (shapeCast S512
      (shapeCast S512x1 (multiReduction .maximumf [1] S512 l 0xFF800000#32 reduces_S512x100_S512 (.inl rfl) rfl)
        shapeCasts_S512_S512x1) shapeCasts_S512x1_S512)
    (log
      (multiReduction .add [1] S512
        (exp
          (subf l
            (broadcastTo S512x100
              (shapeCast S512x1 (multiReduction .maximumf [1] S512 l 0xFF800000#32 reduces_S512x100_S512 (.inl rfl) rfl)
                shapeCasts_S512_S512x1) broadcasts_S512x1_S512x100)))
        0x00000000#32 reduces_S512x100_S512 (.inl rfl) rfl))

/-- The row put together from the chosen codewords. -/
def chosen (x : Vec F S512x512 .f32) (s8 : Vec F S512x256 .f32) (s9 : Vec F S1x4096 .f32) (s10 : Vec F S4096x128 .f32) :
    FVec F S512x512 .f32 :=
  joined (parts (hots fun m => hot (scores x s8 s9 m)) s10)

theorem logitsV_eq (x : Vec F S512x512 .f32) (s8 : Vec F S512x256 .f32) (s9 : Vec F S1x4096 .f32) (s10 : Vec F S4096x128 .f32)
    (w1 : Vec F S512x2048 .f32) (w2 : Vec F S2048x100 .f32) :
    logitsV x s8 s9 s10 w1 w2 = layers (chosen x s8 s9 s10) w1 w2 := rfl

theorem lseV_eq (x : Vec F S512x512 .f32) (s8 : Vec F S512x256 .f32) (s9 : Vec F S1x4096 .f32) (s10 : Vec F S4096x128 .f32)
    (w1 : Vec F S512x2048 .f32) (w2 : Vec F S2048x100 .f32) :
    lseV x s8 s9 s10 w1 w2 = lse (logitsV x s8 s9 s10 w1 w2) := rfl

end Cert.KernelIdeal

end
-- ==== Proof.RealRow.lean ====
/- Sums of reals read as extended reals, and a row of 100 reals: its largest entry and the sum of its exponentials. -/
module

public import proofs.«01_k».proof.Proof.Consts

@[expose] public section

noncomputable section

namespace Cert.Reals

open Idealize.ShloMosaic

/-- A sum of reals, read as extended reals. -/
theorem coe_sum {ι : Type} (s : Finset ι) (f : ι → ℝ) : (∑ i ∈ s, ((f i : ℝ) : EReal)) = ((∑ i ∈ s, f i : ℝ) : EReal) :=
  (map_sum (⟨⟨Real.toEReal, EReal.coe_zero⟩, EReal.coe_add⟩ : ℝ →+ EReal) f s).symm

/-- The largest of a row of reals. -/
def top100 (L : Fin 100 → ℝ) : ℝ := Finset.univ.sup' ⟨0, Finset.mem_univ _⟩ L

theorem fold_max_coe (L : Fin 100 → ℝ) :
    Finset.fold max (⊥ : EReal) (fun k => ((L k : ℝ) : EReal)) Finset.univ = ((top100 L : ℝ) : EReal) := by
  obtain ⟨k, _, hk⟩ := Finset.exists_mem_eq_sup' (⟨0, Finset.mem_univ _⟩ : (Finset.univ : Finset (Fin 100)).Nonempty) L
  apply le_antisymm
  · exact (Finset.fold_max_le _).mpr ⟨bot_le, fun j _ => EReal.coe_le_coe_iff.mpr (Finset.le_sup' L (Finset.mem_univ j))⟩
  · refine (Finset.le_fold_max _).mpr (Or.inr ⟨k, Finset.mem_univ _, ?_⟩)
    exact EReal.coe_le_coe_iff.mpr (le_of_eq hk)

/-- The sum of the exponentials of the differences from the largest. -/
def expSum (L : Fin 100 → ℝ) : ℝ := ∑ k, Real.exp (L k - top100 L)

theorem expSum_pos (L : Fin 100 → ℝ) : 0 < expSum L :=
  Finset.sum_pos (fun k _ => Real.exp_pos _) ⟨0, Finset.mem_univ _⟩

theorem log_expSum (L : Fin 100 → ℝ) : Ideal.log ((expSum L : ℝ) : EReal) = ((Real.log (expSum L) : ℝ) : EReal) := by
  rw [Ideal.log_coe, if_neg (not_le.mpr (expSum_pos L))]

end Cert.Reals

end
-- ==== Proof.Score.lean ====
/-
  One grid point's scores and losses at exact arithmetic, for arrays of reals: the score of a codeword is minus twice
  the product with the row's columns plus the codeword's squared length; the loss of a row is the logarithm of the sum
  of the exponentials, less the logit at the label.
-/
module

public import proofs.«01_k».proof.Proof.Net
public import proofs.«01_k».proof.Proof.RealRow
public import Idealize.ShloMosaic.Lib.Pointwise

@[expose] public section

set_option maxRecDepth 16384

noncomputable section

namespace Cert.KernelIdeal

open Idealize.ShloMosaic Cert.KernelIdeal.Gen Cert.Reals

/-- A score, as a sum. -/
theorem score_apply (x : Vec Ideal S512x512 .f32) (a : Vec Ideal S32x256 .f32) (q : Vec Ideal S1x4096 .f32) (m : Fin 16)
    (r : Fin 512) (k : Fin 256) :
    score x a q (32 * m.val) (256 * m.val) (sliceX m) (sliceQ m) (ix2 r k)
      = ((∑ s : Fin 32, (x (ix2 r ⟨32 * m.val + s.val, by omega⟩) * a (ix2 s k) : EReal)) + q (ix2 0 ⟨256 * m.val + k.val, by omega⟩) : EReal) := by
  unfold score
  simp only [pointwise]
  rw [zero_add]
  congr 1
  refine Finset.sum_congr rfl fun s _ => ?_
  congr 1
  congr 1
  congr 1
  apply Fin.ext
  show 0 + r.val = r.val
  omega

theorem rowsOf_cbt (y : Vec Ideal S4096x32 .f32) (m : Fin 16) (s : Fin 32) (k : Fin 256) :
    rowsOf (cbt y) m (ix2 s k) = k0_pay3 (blk y m) (ix2 s k) := by
  have e0 : ∀ h, (⟨(32 * m.val + s.val) / 32, h⟩ : Fin 16) = m := fun h => Fin.ext (by show (32 * m.val + s.val) / 32 = m.val; omega)
  have e1 : ∀ h, (⟨(32 * m.val + s.val) % 32, h⟩ : Fin 32) = s := fun h => Fin.ext (by show (32 * m.val + s.val) % 32 = s.val; omega)
  exact congrArg₂ (fun p q => k0_pay3 (blk y p) (ix2 (n0 := 32) (n1 := 256) q k)) (e0 (by omega)) (e1 (by omega))

theorem csq_apply (y : Vec Ideal S4096x32 .f32) (m : Fin 16) (k : Fin 256) :
    csq y (ix2 0 ⟨256 * m.val + k.val, by omega⟩) = k0_pay4 (blk y m) (ix2 0 k) := by
  have e0 : ∀ h, (⟨(256 * m.val + k.val) / 256, h⟩ : Fin 16) = m := fun h => Fin.ext (by show (256 * m.val + k.val) / 256 = m.val; omega)
  have e1 : ∀ h, (⟨(256 * m.val + k.val) % 256, h⟩ : Fin 256) = k := fun h => Fin.ext (by show (256 * m.val + k.val) % 256 = k.val; omega)
  exact congrArg₂ (fun p q => k0_pay4 (blk y p) (ix2 (n0 := 1) (n1 := 256) 0 q)) (e0 (by omega)) (e1 (by omega))

/-- The first operand's entry: minus twice the codeword's. -/
theorem pay3_apply (b : Vec Ideal S256x32 .f32) (s : Fin 32) (k : Fin 256) :
    k0_pay3 b (ix2 s k) = (((-2 : ℝ) : EReal) * b (ix2 k s) : EReal) := by
  rw [← Consts.ofBits_neg_two]
  unfold k0_pay3 k0_pay2
  simp only [pointwise]

/-- The second operand's entry. -/
theorem pay4_apply (b : Vec Ideal S256x32 .f32) (k : Fin 256) :
    k0_pay4 b (ix2 0 k) = (((1 / 4 : ℝ) : EReal) *
      ∑ s : Fin 32, ((((-2 : ℝ) : EReal) * b (ix2 k s)) * (((-2 : ℝ) : EReal) * b (ix2 k s)) : EReal) : EReal) := by
  rw [← Consts.ofBits_neg_two, ← Consts.ofBits_quarter]
  unfold k0_pay4 k0_pay2
  simp only [pointwise]

/-- The score of codeword `k` of codebook `m` for row `r`. -/
theorem scores_apply (x : Vec Ideal S512x512 .f32) (y : Vec Ideal S4096x32 .f32) (X : Fin 512 → Fin 512 → ℝ)
    (Y : Fin 4096 → Fin 32 → ℝ) (hx : ∀ r j, x (ix2 r j) = ((X r j : ℝ) : EReal)) (hy : ∀ q s, y (ix2 q s) = ((Y q s : ℝ) : EReal))
    (m : Fin 16) (r : Fin 512) (k : Fin 256) :
    scores x (cbt y) (csq y) m (ix2 r k)
      = (((∑ s : Fin 32, X r ⟨32 * m.val + s.val, by omega⟩ * (-2 * Y ⟨256 * m.val + k.val, by omega⟩ s))
          + 1 / 4 * ∑ s : Fin 32, (-2 * Y ⟨256 * m.val + k.val, by omega⟩ s) * (-2 * Y ⟨256 * m.val + k.val, by omega⟩ s) : ℝ) : EReal) := by
  have hb : ∀ s : Fin 32, blk y m (ix2 k s) = ((Y ⟨256 * m.val + k.val, by omega⟩ s : ℝ) : EReal) := fun s => hy _ s
  unfold scores
  rw [score_apply, csq_apply, pay4_apply, EReal.coe_add, EReal.coe_mul]
  congr 1
  · rw [← coe_sum]
    refine Finset.sum_congr rfl fun s _ => ?_
    rw [rowsOf_cbt, pay3_apply, hx, hb, ← EReal.coe_mul, ← EReal.coe_mul]
  · congr 1
    rw [← coe_sum]
    refine Finset.sum_congr rfl fun s _ => ?_
    rw [hb, ← EReal.coe_mul, ← EReal.coe_mul]

/-- The logarithm of the sum of the exponentials of a row of reals. -/
theorem lse_apply (l : FVec Ideal S512x100 .f32) (r : Fin 512) (L : Fin 100 → ℝ) (hl : ∀ c, l (ix2 r c) = ((L c : ℝ) : EReal)) :
    lse l (ix1 r) = ((top100 L + Real.log (expSum L) : ℝ) : EReal) := by
  have hm : Finset.fold max (Ideal.ofBits .f32 4286578688#32) (fun k => l (ix2 r k)) Finset.univ = ((top100 L : ℝ) : EReal) := by
    rw [show Ideal.ofBits .f32 4286578688#32 = (⊥ : EReal) from Consts.ofBits_neg_inf, ← fold_max_coe]
    exact congrArg (fun f => Finset.fold max (⊥ : EReal) f Finset.univ) (funext fun k => hl k)
  have hs : (∑ k : Fin 100, Ideal.exp (l (ix2 r k) - Finset.fold max (Ideal.ofBits .f32 4286578688#32) (fun k => l (ix2 r k)) Finset.univ : EReal) : EReal)
      = ((expSum L : ℝ) : EReal) := by
    unfold expSum
    rw [← coe_sum]
    refine Finset.sum_congr rfl fun k _ => ?_
    rw [hm, hl, ← EReal.coe_sub, Ideal.exp_coe]
  rw [EReal.coe_add, ← log_expSum, ← hs, ← hm]
  unfold lse
  simp only [pointwise]
  rfl

/-- The row's loss: the logarithm of the sum of the exponentials less the logit at the label. -/
theorem loss_apply (l : FVec Ideal S512x100 .f32) (z : FVec Ideal S512 .f32) (y : Vec Ideal S1x512 .i32) (r : Fin 512)
    (v : Fin 100) (hv : y (ix2 0 r) = BitVec.ofNat 32 v.val) :
    k0_pay1 l (iota .tc S512x100 32 [1] iota_S512x100_d1_w32) z y (ix2 0 r) = (z (ix1 r) - l (ix2 r v) : EReal) := by
  have hsum : (∑ k : Fin 100, Scalar.select (IntOp.cmpi .eq (BitVec.ofNat 32 k.val) (y (ix2 0 r))) (l (ix2 r k)) (0 : EReal) : EReal)
      = l (ix2 r v) := by
    rw [Finset.sum_eq_single v]
    · rw [hv]
      unfold Scalar.select IntOp.cmpi
      simp
    · intro k _ hk
      rw [hv]
      have : BitVec.ofNat 32 k.val ≠ BitVec.ofNat 32 v.val := by
        intro h
        apply hk
        have := congrArg BitVec.toNat h
        simp only [BitVec.toNat_ofNat] at this
        apply Fin.ext
        omega
      unfold Scalar.select IntOp.cmpi
      rw [if_neg]
      rw [beq_eq_false_iff_ne.mpr this]
      show ¬(BitVec.ofBool false = 1#1)
      decide
    · intro hn
      exact absurd (Finset.mem_univ _) hn
  rw [← hsum]
  unfold k0_pay1
  simp only [pointwise]
  rfl

end Cert.KernelIdeal

end
-- ==== Proof.Chosen.lean ====
/-
  What one grid point puts together, at exact arithmetic: where in every row one codeword of each codebook scores below
  all the others, the row put together is that codeword's entries, codebook after codebook.
-/
module

public import proofs.«01_k».proof.Proof.Net
public import proofs.«01_k».proof.Proof.Consts
public import Idealize.ShloMosaic.Lib.Pointwise

@[expose] public section

set_option maxRecDepth 16384

noncomputable section

namespace Cert.KernelIdeal

open Idealize.ShloMosaic Cert.KernelIdeal.Gen

/-- A least entry that is the only one is what a minimum over a row finds. -/
theorem fold_min_eq {n : ℕ} (f : Fin n → EReal) (k₀ : Fin n) (h : ∀ k, k ≠ k₀ → f k₀ < f k) :
    Finset.fold min (⊤ : EReal) f Finset.univ = f k₀ := by
  apply le_antisymm
  · exact ((Finset.le_fold_min (s := Finset.univ) (f := f) (b := (⊤ : EReal)) _).mp le_rfl).2 k₀ (Finset.mem_univ _)
  · refine (Finset.le_fold_min (s := Finset.univ) (f := f) (b := (⊤ : EReal)) _).mpr ⟨le_top, fun k _ => ?_⟩
    by_cases hk : k = k₀
    · rw [hk]
    · exact (h k hk).le

/-- The mask of a row whose least entry is the only one: one there, zero elsewhere. -/
theorem hot_apply (d : FVec Ideal S512x256 .f32) (r : Fin 512) (k₀ : Fin 256)
    (h : ∀ k, k ≠ k₀ → d (ix2 r k₀) < d (ix2 r k)) (k : Fin 256) :
    hot d (ix2 r k) = if k = k₀ then 1 else 0 := by
  unfold hot
  simp only [pointwise]
  rw [show Ideal.ofBits .f32 2139095040#32 = (⊤ : EReal) from Consts.ofBits_inf]
  have e := fold_min_eq (fun k => d (ix2 r k)) k₀ h
  have e' : Finset.fold min (⊤ : EReal) (fun k => d (ix2 (if h1 : 512 = 1 then 0 else r) k)) Finset.univ = d (ix2 r k₀) := by
    simpa using e
  refine (congrArg (fun z : EReal => if (d (ix2 r k) : EReal) = z then (1 : EReal) else 0) e').trans ?_
  by_cases hk : k = k₀
  · subst hk; simp
  · rw [if_neg hk, if_neg (ne_of_gt (h k hk))]

/-- Column `q` of the masks side by side lies in mask `q / 256`. -/
theorem hots_apply (H : Fin 16 → FVec Ideal S512x256 .f32) (r : Fin 512) (q : Fin 4096) :
    hots H (ix2 r q) = H ⟨q.val / 256, by omega⟩ (ix2 r ⟨q.val % 256, Nat.mod_lt _ (by decide)⟩) := by
  have e : hots H = concatenate S512x4096 1 (List.ofFn fun n : Fin 16 => (⟨S512x256, H n⟩ : (s : Shape) × (s.Idx → EReal)))
      concatenates_S512x256_S512x256_S512x256_S512x256_S512x256_S512x256_S512x256_S512x256_S512x256_S512x256_S512x256_S512x256_S512x256_S512x256_S512x256_S512x256_S512x4096_d1 := rfl
  rw [e]
  refine concatenate_ofFn_apply (t := S512x4096) (s₁ := S512x256) 1 H _ rfl 256 rfl (ix2 r q) ⟨q.val / 256, by omega⟩ rfl
    (ix2 r ⟨q.val % 256, Nat.mod_lt _ (by decide)⟩) rfl ?_
  intro b hb
  fin_cases b
  · rfl
  · exact absurd rfl hb

/-- Column `c` of the parts side by side lies in part `c / 128`. -/
theorem joined_apply (P : Fin 4 → FVec Ideal S512x128 .f32) (r : Fin 512) (c : Fin 512) :
    joined P (ix2 r c) = P ⟨c.val / 128, by omega⟩ (ix2 r ⟨c.val % 128, Nat.mod_lt _ (by decide)⟩) := by
  have e : joined P = concatenate S512x512 1 (List.ofFn fun n : Fin 4 => (⟨S512x128, P n⟩ : (s : Shape) × (s.Idx → EReal)))
      concatenates_S512x128_S512x128_S512x128_S512x128_S512x512_d1 := rfl
  rw [e]
  refine concatenate_ofFn_apply (t := S512x512) (s₁ := S512x128) 1 P _ rfl 128 rfl (ix2 r c) ⟨c.val / 128, by omega⟩ rfl
    (ix2 r ⟨c.val % 128, Nat.mod_lt _ (by decide)⟩) rfl ?_
  intro b hb
  fin_cases b
  · rfl
  · exact absurd rfl hb

/-- One part is the product of its group's masks with the group's operand. -/
theorem parts_apply (hs : FVec Ideal S512x4096 .f32) (s10 : Vec Ideal S4096x128 .f32) (g : Fin 4) (r : Fin 512) (c : Fin 128) :
    parts hs s10 g (ix2 r c) = ∑ k : Fin 1024,
      (hs (ix2 r ⟨1024 * g.val + k.val, by omega⟩) * s10 (ix2 ⟨1024 * g.val + k.val, by omega⟩ c) : EReal) := by
  unfold parts part grpOf
  simp only [pointwise]
  rw [zero_add]
  refine Finset.sum_congr rfl fun k _ => ?_
  congr 1
  congr 1
  congr 1
  apply Fin.ext
  show 0 + r.val = r.val
  omega

/-- The groups' operand at an index. -/
theorem dec_apply (y : Vec Ideal S4096x32 .f32) (q : Fin 4096) (c : Fin 128) :
    dec y (ix2 q c) = if q.val / 256 % 4 = c.val / 32 then
      y (ix2 (n0 := 4096) (n1 := 32) q ⟨c.val % 32, Nat.mod_lt _ (by decide)⟩) else (0 : EReal) := by
  refine Eq.trans ?_ (congrArg (fun z : EReal => if q.val / 256 % 4 = c.val / 32 then
      y (ix2 (n0 := 4096) (n1 := 32) q ⟨c.val % 32, Nat.mod_lt _ (by decide)⟩) else z) Consts.ofBits_zero)
  rfl

/-- The row put together. -/
theorem chosen_apply (x : Vec Ideal S512x512 .f32) (s8 : Vec Ideal S512x256 .f32) (s9 : Vec Ideal S1x4096 .f32)
    (y : Vec Ideal S4096x32 .f32) (r : Fin 512) (code : Fin 16 → Fin 256)
    (h : ∀ m k, k ≠ code m → scores x s8 s9 m (ix2 r (code m)) < scores x s8 s9 m (ix2 r k)) (c : Fin 512) :
    chosen x s8 s9 (dec y) (ix2 r c)
      = y (ix2 (n0 := 4096) (n1 := 32) ⟨256 * (c.val / 32) + (code ⟨c.val / 32, by omega⟩).val, by omega⟩
          ⟨c.val % 32, Nat.mod_lt _ (by decide)⟩) := by
  unfold chosen
  rw [joined_apply, parts_apply]
  have hc := (code ⟨c.val / 32, by omega⟩).isLt
  rw [Finset.sum_eq_single (⟨256 * (c.val / 32 % 4) + (code ⟨c.val / 32, by omega⟩).val, by omega⟩ : Fin 1024)]
  · rw [hots_apply, hot_apply _ r (code _) (h _), if_pos, one_mul]
    · rw [dec_apply, if_pos]
      · congr 1
        congr 1
        · apply Fin.ext
          show 1024 * (c.val / 128) + (256 * (c.val / 32 % 4) + (code ⟨c.val / 32, by omega⟩).val) = 256 * (c.val / 32) + (code ⟨c.val / 32, by omega⟩).val
          omega
        · apply Fin.ext
          show c.val % 128 % 32 = c.val % 32
          omega
      · show (1024 * (c.val / 128) + (256 * (c.val / 32 % 4) + (code ⟨c.val / 32, by omega⟩).val)) / 256 % 4 = c.val % 128 / 32
        omega
    · apply Fin.ext
      have e : (⟨(1024 * (c.val / 128) + (256 * (c.val / 32 % 4) + (code ⟨c.val / 32, by omega⟩).val)) / 256, by omega⟩ : Fin 16) = ⟨c.val / 32, by omega⟩ := by
        apply Fin.ext
        show (1024 * (c.val / 128) + (256 * (c.val / 32 % 4) + (code ⟨c.val / 32, by omega⟩).val)) / 256 = c.val / 32
        omega
      refine Eq.trans ?_ (congrArg (fun m => (code m).val) e.symm)
      show (1024 * (c.val / 128) + (256 * (c.val / 32 % 4) + (code ⟨c.val / 32, by omega⟩).val)) % 256 = (code ⟨c.val / 32, by omega⟩).val
      omega
  · intro q _ hq
    by_cases hd : (1024 * (c.val / 128) + q.val) / 256 % 4 = c.val % 128 / 32
    · rw [hots_apply, hot_apply _ r (code _) (h _), if_neg, zero_mul]
      intro he
      apply hq
      have e : (⟨(1024 * (c.val / 128) + q.val) / 256, by omega⟩ : Fin 16) = ⟨c.val / 32, by omega⟩ := by
        apply Fin.ext
        show (1024 * (c.val / 128) + q.val) / 256 = c.val / 32
        omega
      have he' := (congrArg Fin.val he).trans (congrArg (fun m => (code m).val) e)
      change (1024 * (c.val / 128) + q.val) % 256 = (code ⟨c.val / 32, by omega⟩).val at he'
      apply Fin.ext
      show q.val = 256 * (c.val / 32 % 4) + (code ⟨c.val / 32, by omega⟩).val
      omega
    · rw [dec_apply, if_neg hd, mul_zero]
  · intro hn
    exact absurd (Finset.mem_univ _) hn

/-- The two layers, as sums. -/
theorem layers_apply (R : FVec Ideal S512x512 .f32) (w1 : Vec Ideal S512x2048 .f32) (w2 : Vec Ideal S2048x100 .f32)
    (r : Fin 512) (c : Fin 100) :
    layers R w1 w2 (ix2 r c)
      = ∑ k : Fin 2048, (max (∑ j : Fin 512, (R (ix2 r j) * w1 (ix2 j k) : EReal)) 0 * w2 (ix2 k c) : EReal) := by
  unfold layers
  simp only [pointwise]
  simp only [zero_add]

end Cert.KernelIdeal

end
-- ==== Proof.RefGather.lean ====
/-
  The reference's two gathers, read at an index: the codebooks at a pair (codebook, codeword), and a row of 100 at a
  label.
-/
module

public import proofs.«01_k».proof.Proof.RefRun
public import Idealize.ShloMosaic.Lib.Pointwise

@[expose] public section

set_option maxRecDepth 16384

noncomputable section

namespace Cert.ReferenceIdeal.Steps

open Idealize.ShloMosaic Cert.ReferenceIdeal Cert.ReferenceIdeal.Gen

/-- A word that numbers one of at most 2³¹ places, read signed. -/
theorem toNat_word (a : ℕ) (h : a < 2147483648) : (BitVec.ofNat 32 a).toInt.toNat = a := by
  have h1 : (BitVec.ofNat 32 a).toNat = a := by
    rw [BitVec.toNat_ofNat]
    omega
  rw [BitVec.toInt_eq_toNat_cond, h1]
  omega

theorem two_nmem : (2 : Fin 3) ∉ [(0 : Fin 3), 1] := by decide
theorem one_nmem : (1 : Fin 2) ∉ [(0 : Fin 2)] := by decide

/-- An entry of the codeword that a pair names. -/
theorem gather_books {α : Type} (cb : S16x256x32.Idx → α) (idx : IVec S4096x16x2 32) (n : Fin 4096) (m : Fin 16) (s : Fin 32)
    (a : Fin 16) (b : Fin 256) (ha : idx (ix3 n m 0) = BitVec.ofNat 32 a.val) (hb : idx (ix3 n m 1) = BitVec.ofNat 32 b.val) :
    Host.gather gather_S16x256x32_S4096x16x2_S4096x16x32_2_01_n_n_01_2_1132 cb idx (ix3 n m s) = cb (ix3 a b s) := by
  unfold Host.gather
  congr 1
  funext e
  refine Fin.ext ?_
  show GatherDims.start _ (ix3 n m s) idx e + GatherDims.batchCoord _ (ix3 n m s) e + GatherDims.offCoord _ (ix3 n m s) e = _
  rw [GatherDims.batchCoord_eq_zero _ _ _ List.not_mem_nil]
  have h012 : e = 0 ∨ e = 1 ∨ e = 2 := by
    match e with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 List.mem_cons_self)]
    unfold GatherDims.start
    rw [dif_pos (show (0 : Fin 3) ∈ (gather_S16x256x32_S4096x16x2_S4096x16x32_2_01_n_n_01_2_1132).startIndexMap from List.mem_cons_self)]
    refine Eq.trans (b := min (idx (ix3 n m 0)).toInt.toNat 15) ?_ ?_
    · show min (idx _).toInt.toNat 15 = _
      congr 4
      funext p
      match p with
      | ⟨0, _⟩ => rfl
      | ⟨1, _⟩ => rfl
      | ⟨2, _⟩ => rfl
    · rw [ha, toNat_word _ (by omega)]
      show min a.val 15 = a.val
      omega
  · rw [GatherDims.offCoord_eq_zero _ _ _ (fun h => ((GatherDims.mem_sKept _ _).mp h).1 (List.mem_cons_of_mem _ List.mem_cons_self))]
    unfold GatherDims.start
    rw [dif_pos (show (1 : Fin 3) ∈ (gather_S16x256x32_S4096x16x2_S4096x16x32_2_01_n_n_01_2_1132).startIndexMap from List.mem_cons_of_mem _ List.mem_cons_self)]
    refine Eq.trans (b := min (idx (ix3 n m 1)).toInt.toNat 255) ?_ ?_
    · show min (idx _).toInt.toNat 255 = _
      congr 4
      funext p
      match p with
      | ⟨0, _⟩ => rfl
      | ⟨1, _⟩ => rfl
      | ⟨2, _⟩ => rfl
    · rw [hb, toNat_word _ (by omega)]
      show min b.val 255 = b.val
      omega
  · unfold GatherDims.start
    rw [dif_neg (show (2 : Fin 3) ∉ (gather_S16x256x32_S4096x16x2_S4096x16x32_2_01_n_n_01_2_1132).startIndexMap from two_nmem)]
    unfold GatherDims.offCoord
    rw [dif_pos ((GatherDims.mem_sKept _ _).mpr ⟨two_nmem, List.not_mem_nil⟩)]
    show 0 + 0 + s.val = s.val
    omega

/-- The entry of a row that a label names. -/
theorem gather_label {α : Type} (lp : S4096x100.Idx → α) (idx : IVec S4096x1x1 32) (n : Fin 4096)
    (v : Fin 100) (hv : idx (ix3 n 0 0) = BitVec.ofNat 32 v.val) :
    Host.gather gather_S4096x100_S4096x1x1_S4096x1_n_1_0_0_1_2_11 lp idx (ix2 n 0) = lp (ix2 n v) := by
  unfold Host.gather
  congr 1
  funext e
  refine Fin.ext ?_
  show GatherDims.start _ (ix2 n 0) idx e + GatherDims.batchCoord _ (ix2 n 0) e + GatherDims.offCoord _ (ix2 n 0) e = _
  have h01 : e = 0 ∨ e = 1 := by
    match e with
    | ⟨0, _⟩ => exact Or.inl rfl
    | ⟨1, _⟩ => exact Or.inr rfl
  rcases h01 with rfl | rfl
  · rw [GatherDims.start_batching _ _ _ _ List.mem_cons_self,
      GatherDims.offCoord_eq_zero _ _ _ (fun h => ((GatherDims.mem_sKept _ _).mp h).2 List.mem_cons_self)]
    unfold GatherDims.batchCoord
    rw [dif_pos (show (0 : Fin 2) ∈ (gather_S4096x100_S4096x1x1_S4096x1_n_1_0_0_1_2_11).operandBatchingDims from List.mem_cons_self)]
    show 0 + n.val + 0 = n.val
    omega
  · rw [GatherDims.batchCoord_eq_zero _ _ _ one_nmem,
      GatherDims.offCoord_eq_zero _ _ _ (fun h => ((GatherDims.mem_sKept _ _).mp h).1 List.mem_cons_self)]
    unfold GatherDims.start
    rw [dif_pos (show (1 : Fin 2) ∈ (gather_S4096x100_S4096x1x1_S4096x1_n_1_0_0_1_2_11).startIndexMap from List.mem_cons_self)]
    refine Eq.trans (b := min (idx (ix3 n 0 0)).toInt.toNat 99) ?_ ?_
    · show min (idx _).toInt.toNat 99 = _
      congr 4
      funext p
      match p with
      | ⟨0, _⟩ => rfl
      | ⟨1, _⟩ => rfl
      | ⟨2, _⟩ => rfl
    · rw [hv, toNat_word _ (by omega)]
      show min v.val 99 = v.val
      omega

end Cert.ReferenceIdeal.Steps

end
-- ==== Proof.RefValue.lean ====
/-
  The reference's steps at exact arithmetic, read at an index: the distances of arrays of reals, the row put together
  from given codes, the two layers where the biases are zero, and the loss of a row of reals.
-/
module

public import proofs.«01_k».proof.Proof.RefGather
public import proofs.«01_k».proof.Proof.RealRow
public import Idealize.ShloMosaic.Lib.Pointwise
public import Idealize.ShloMosaic.Lib.Pipeline.Value

@[expose] public section

set_option maxRecDepth 16384

noncomputable section

namespace Cert.ReferenceIdeal.Steps

open Idealize.ShloMosaic Cert.ReferenceIdeal Cert.ReferenceIdeal.Gen Cert.Reals

/-- The squared distance of subvector `m` of row `n` to codeword `k`. -/
theorem dist_apply (x : Vec Ideal S4096x512 .f32) (cb : Vec Ideal S16x256x32 .f32) (X : Fin 4096 → Fin 512 → ℝ)
    (C : Fin 16 → Fin 256 → Fin 32 → ℝ) (hx : ∀ r j, x (ix2 r j) = ((X r j : ℝ) : EReal))
    (hc : ∀ m k s, cb (ix3 m k s) = ((C m k s : ℝ) : EReal)) (n : Fin 4096) (m : Fin 16) (k : Fin 256) :
    dist x cb (ix3 n m k)
      = (((∑ s : Fin 32, X n ⟨m.val * 32 + s.val, by omega⟩ * X n ⟨m.val * 32 + s.val, by omega⟩)
          - 2 * (∑ s : Fin 32, C m k s * X n ⟨m.val * 32 + s.val, by omega⟩) + ∑ s : Fin 32, C m k s * C m k s : ℝ) : EReal) := by
  rw [EReal.coe_add, EReal.coe_sub, EReal.coe_mul, ← coe_sum, ← coe_sum, ← coe_sum, ← Consts.ofBits_two]
  simp only [EReal.coe_mul, ← hx, ← hc]
  unfold dist
  simp only [pointwise, zero_add]
  rfl

/-- The logits less their row's largest. -/
theorem shifted_apply (l : Vec Ideal S4096x100 .f32) (n : Fin 4096) (L : Fin 100 → ℝ) (hl : ∀ c, l (ix2 n c) = ((L c : ℝ) : EReal))
    (c : Fin 100) : shifted l (ix2 n c) = ((L c - top100 L : ℝ) : EReal) := by
  have hm : max (Ideal.ofBits .f32 4286578688#32) (Finset.fold max (Ideal.ofBits .f32 4286578688#32) (fun k => l (ix2 n k)) Finset.univ) = ((top100 L : ℝ) : EReal) := by
    rw [show Ideal.ofBits .f32 4286578688#32 = (⊥ : EReal) from Consts.ofBits_neg_inf, ← fold_max_coe, max_eq_right bot_le]
    exact congrArg (fun f => Finset.fold max (⊥ : EReal) f Finset.univ) (funext fun k => hl k)
  rw [EReal.coe_sub, ← hl, ← hm]
  unfold shifted
  simp only [pointwise]
  rfl

/-- The logarithm of the softmax of a row of reals. -/
theorem logp_apply (l : Vec Ideal S4096x100 .f32) (n : Fin 4096) (L : Fin 100 → ℝ) (hl : ∀ c, l (ix2 n c) = ((L c : ℝ) : EReal))
    (c : Fin 100) : logp (shifted l) (ix2 n c) = ((L c - top100 L - Real.log (expSum L) : ℝ) : EReal) := by
  have hs : (∑ k : Fin 100, Ideal.exp (shifted l (ix2 n k)) : EReal) = ((expSum L : ℝ) : EReal) := by
    unfold expSum
    rw [← coe_sum]
    refine Finset.sum_congr rfl fun k _ => ?_
    rw [shifted_apply l n L hl, Ideal.exp_coe]
  rw [EReal.coe_sub, ← log_expSum, ← hs, ← shifted_apply l n L hl]
  unfold logp
  simp only [pointwise, zero_add]
  rfl

/-- The label's index. -/
theorem labelIdx_apply (y : Vec Ideal S4096 .i32) (n : Fin 4096) (v : Fin 100) (hv : y (ix1 n) = BitVec.ofNat 32 v.val) :
    labelIdx (F := Ideal) y (ix3 n 0 0) = BitVec.ofNat 32 v.val := by
  have e : Scalar.select (IntOp.cmpi CmpIPredicate.slt (y (ix1 n)) 0#32) (IntOp.addi (y (ix1 n)) 100#32) (y (ix1 n)) = BitVec.ofNat 32 v.val := by
    rw [hv]
    clear hv
    revert v
    decide
  rw [← e]
  unfold labelIdx
  simp only [pointwise]
  rfl

/-- A label lies in the row. -/
theorem inRow_apply (i : Vec Ideal S4096x1x1 .i32) (n : Fin 4096) (v : Fin 100) (hv : i (ix3 n 0 0) = BitVec.ofNat 32 v.val) :
    inRow (F := Ideal) i (ix2 n 0) = 1#1 := by
  have e : ∀ z : Fin 1, IntOp.andi (IntOp.cmpi CmpIPredicate.sge (i (ix3 n 0 z)) 0#32) (IntOp.cmpi CmpIPredicate.sle (i (ix3 n 0 z)) 99#32) = 1#1 := by
    intro z
    obtain rfl : z = 0 := Subsingleton.elim _ _
    rw [hv]
    clear hv
    revert v
    decide
  have e' : Finset.fold IntOp.andi (1#1) (fun z : Fin 1 => IntOp.andi (IntOp.cmpi CmpIPredicate.sge (i (ix3 n 0 z)) 0#32) (IntOp.cmpi CmpIPredicate.sle (i (ix3 n 0 z)) 99#32)) Finset.univ = 1#1 := by
    rw [funext e]
    rfl
  rw [← e']
  unfold inRow
  simp only [pointwise]

/-- The loss of a row of reals. -/
theorem loss_apply (l : Vec Ideal S4096x100 .f32) (y : Vec Ideal S4096 .i32) (n : Fin 4096) (L : Fin 100 → ℝ)
    (hl : ∀ c, l (ix2 n c) = ((L c : ℝ) : EReal)) (v : Fin 100) (hv : y (ix1 n) = BitVec.ofNat 32 v.val) :
    lossOf (logp (shifted l)) y (ix2 0 n) = ((-(L v - top100 L - Real.log (expSum L)) : ℝ) : EReal) := by
  have hi := labelIdx_apply y n v hv
  have e : (-Scalar.select (inRow (F := Ideal) (labelIdx (F := Ideal) y) (ix2 n 0))
        (Host.gather gather_S4096x100_S4096x1x1_S4096x1_n_1_0_0_1_2_11 (logp (shifted l)) (labelIdx (F := Ideal) y) (ix2 n 0))
        (Ideal.ofBits FTy.f32 2143289344#32) : EReal) = ((-(L v - top100 L - Real.log (expSum L)) : ℝ) : EReal) := by
    rw [inRow_apply _ n v hi, gather_label _ _ n v hi, logp_apply l n L hl, EReal.coe_neg]
    rfl
  rw [← e]
  unfold lossOf taken
  simp only [pointwise]

/-- Two index columns side by side, read at either. -/
theorem pairUp_apply (a b : Vec Ideal S4096x16x1 .i32) (n : Fin 4096) (m : Fin 16) (p : Fin 2) :
    pairUp (F := Ideal) a b (ix3 n m p) = (![a, b] p : Vec Ideal S4096x16x1 .i32) (ix3 n m 0) := by
  have e : pairUp (F := Ideal) a b = concatenate S4096x16x2 2
      (List.ofFn fun q : Fin 2 => (⟨S4096x16x1, (![a, b] : Fin 2 → Vec Ideal S4096x16x1 .i32) q⟩ : (s : Shape) × (s.Idx → BitVec 32)))
      concatenates_S4096x16x1_S4096x16x1_S4096x16x2_d2 := rfl
  rw [e]
  refine concatenate_ofFn_apply (t := S4096x16x2) (s₁ := S4096x16x1) 2 (![a, b] : Fin 2 → Vec Ideal S4096x16x1 .i32) _ rfl 1 rfl
    (ix3 n m p) p (Nat.div_one _) (ix3 n m 0) (Nat.mod_one _).symm ?_
  intro d hd
  fin_cases d
  · rfl
  · rfl
  · exact absurd rfl hd

theorem pairUp_left (a b : Vec Ideal S4096x16x1 .i32) (n : Fin 4096) (m : Fin 16) :
    pairUp (F := Ideal) a b (ix3 n m 0) = a (ix3 n m 0) := pairUp_apply a b n m 0

theorem pairUp_right (a b : Vec Ideal S4096x16x1 .i32) (n : Fin 4096) (m : Fin 16) :
    pairUp (F := Ideal) a b (ix3 n m 1) = b (ix3 n m 0) := pairUp_apply a b n m 1

/-- The pairs' first words number the codebooks. -/
theorem pairs_apply0 (codes : Vec Ideal S4096x16 .i32) (n : Fin 4096) (m : Fin 16) :
    pairs (F := Ideal) codes (ix3 n m 0) = BitVec.ofNat 32 m.val := by
  have e : Scalar.select (IntOp.cmpi CmpIPredicate.slt (BitVec.ofNat 32 m.val) 0#32) (IntOp.addi (BitVec.ofNat 32 m.val) 16#32) (BitVec.ofNat 32 m.val) = BitVec.ofNat 32 m.val := by
    revert m
    decide
  refine Eq.trans ?_ e
  unfold pairs
  rw [pairUp_left]
  unfold wrapBooks
  simp only [pointwise]
  rfl

/-- Their second words are the codes. -/
theorem pairs_apply1 (codes : Vec Ideal S4096x16 .i32) (n : Fin 4096) (m : Fin 16) (k : Fin 256) (hk : codes (ix2 n m) = BitVec.ofNat 32 k.val) :
    pairs (F := Ideal) codes (ix3 n m 1) = BitVec.ofNat 32 k.val := by
  have e : Scalar.select (IntOp.cmpi CmpIPredicate.slt (codes (ix2 n m)) 0#32) (IntOp.addi (codes (ix2 n m)) 256#32) (codes (ix2 n m)) = BitVec.ofNat 32 k.val := by
    rw [hk]
    clear hk
    revert k
    decide
  refine Eq.trans ?_ e
  unfold pairs
  rw [pairUp_right]
  unfold wrapWords
  simp only [pointwise]
  rfl

/-- The row put together from the codes. -/
theorem recon_apply (cb : Vec Ideal S16x256x32 .f32) (codes : Vec Ideal S4096x16 .i32) (n : Fin 4096) (code : Fin 16 → Fin 256)
    (h : ∀ m, codes (ix2 n m) = BitVec.ofNat 32 (code m).val) (j : Fin 512) :
    recon cb codes (ix2 n j) = cb (ix3 ⟨j.val / 32, by omega⟩ (code ⟨j.val / 32, by omega⟩) ⟨j.val % 32, Nat.mod_lt _ (by decide)⟩) := by
  refine Eq.trans ?_ (gather_books cb (pairs (F := Ideal) codes) n ⟨j.val / 32, by omega⟩ ⟨j.val % 32, Nat.mod_lt _ (by decide)⟩
    ⟨j.val / 32, by omega⟩ (code ⟨j.val / 32, by omega⟩) (pairs_apply0 codes n _) (pairs_apply1 codes n _ _ (h _)))
  unfold recon
  refine shapeCast_apply _ _ _ _ ?_
  rw [Shape.rowMajor_val_three, Shape.rowMajor_val_two]
  show (n.val * 16 + j.val / 32) * 32 + j.val % 32 = n.val * 512 + j.val
  omega

/-- The two layers where the biases are zero. -/
theorem net_apply (r : Vec Ideal S4096x512 .f32) (w1 : Vec Ideal S512x2048 .f32) (b1 : Vec Ideal S2048 .f32) (w2 : Vec Ideal S2048x100 .f32)
    (b2 : Vec Ideal S100 .f32) (h1 : ∀ k, b1 (ix1 k) = (0 : EReal)) (h2 : ∀ k, b2 (ix1 k) = (0 : EReal)) (n : Fin 4096) (c : Fin 100) :
    head (hidden r w1 b1) w2 b2 (ix2 n c)
      = ∑ k : Fin 2048, (max (∑ j : Fin 512, (r (ix2 n j) * w1 (ix2 j k) : EReal)) 0 * w2 (ix2 k c) : EReal) := by
  have hh : ∀ k, hidden r w1 b1 (ix2 n k) = (max (∑ j : Fin 512, (r (ix2 n j) * w1 (ix2 j k) : EReal)) 0 : EReal) := by
    intro k
    refine Eq.trans (b := max ((∑ j : Fin 512, (r (ix2 n j) * w1 (ix2 j k) : EReal)) + b1 (ix1 k)) (0 : EReal)) ?_ ?_
    · unfold hidden
      simp only [pointwise, zero_add]
      rfl
    · rw [h1, add_zero]
  simp only [← hh]
  refine Eq.trans (b := (∑ k : Fin 2048, (hidden r w1 b1 (ix2 n k) * w2 (ix2 k c) : EReal)) + b2 (ix1 c)) ?_ ?_
  · unfold head
    simp only [pointwise, zero_add]
    rfl
  · rw [h2, add_zero]

end Cert.ReferenceIdeal.Steps

end
-- ==== Proof.Equation.lean ====
/-
  One row of a tile: the kernel's logits and loss are the reference's, when the precondition holds. The kernel's score of a
  codeword is the squared distance less the squared length of the subvector, which no codeword changes, so the one nearest
  codeword has the one lowest score; the codewords chosen are then the same, and the two layers and the cross entropy are
  the same sums of reals.
-/
module

public import proofs.«01_k».proof.Proof.Precondition
public import proofs.«01_k».proof.Proof.Score
public import proofs.«01_k».proof.Proof.Chosen
public import proofs.«01_k».proof.Proof.RefValue

@[expose] public section

set_option maxRecDepth 16384

noncomputable section

namespace Cert.Equation

open Idealize.ShloMosaic Idealize.ShloMosaic.TcCoe
open Cert.Reals Cert.Tame
open Cert.ReferenceIdeal.Steps (dist nearest recon hidden head shifted logp lossOf logitsOf)
open Cert.KernelIdeal (cbt csq dec scores chosen layers lse logitsV lseV lossV logitsV_eq lseV_eq)

/-- The score is the squared distance less the squared length. -/
theorem score_real (X : Fin 32 → ℝ) (C : Fin 32 → ℝ) :
    (∑ s, X s * (-2 * C s)) + 1 / 4 * ∑ s, (-2 * C s) * (-2 * C s)
      = ((∑ s, X s * X s) - 2 * (∑ s, C s * X s) + ∑ s, C s * C s) - ∑ s, X s * X s := by
  simp only [Finset.mul_sum]
  rw [← Finset.sum_add_distrib, ← Finset.sum_sub_distrib, ← Finset.sum_add_distrib, ← Finset.sum_sub_distrib]
  refine Finset.sum_congr rfl fun s _ => ?_
  ring

variable (x : Vec Ideal Cert.ReferenceIdeal.S4096x512 .f32) (y : Vec Ideal Cert.ReferenceIdeal.S4096 .i32)
  (cb : Vec Ideal Cert.ReferenceIdeal.S16x256x32 .f32) (w1 : Vec Ideal Cert.ReferenceIdeal.S512x2048 .f32)
  (b1 : Vec Ideal Cert.ReferenceIdeal.S2048 .f32) (w2 : Vec Ideal Cert.ReferenceIdeal.S2048x100 .f32)
  (b2 : Vec Ideal Cert.ReferenceIdeal.S100 .f32)
  (xt : Vec Ideal Cert.KernelIdeal.S512x512 .f32) (yc : Vec Ideal Cert.KernelIdeal.S4096x32 .f32) (row : Fin 512 → Fin 4096)

/-- The tile's rows and the codebooks, as the arguments' elements. -/
structure Tile : Prop where
  rows : ∀ r j, xt (ix2 (n0 := 512) (n1 := 512) r j) = x (ix2 (n0 := 4096) (n1 := 512) (row r) j)
  codes : ∀ (q : Fin 4096) (g : Fin 16) (k : Fin 256) (s : Fin 32), q.val = 256 * g.val + k.val →
    yc (ix2 (n0 := 4096) (n1 := 32) q s) = cb (ix3 (n0 := 16) (n1 := 256) (n2 := 32) g k s)

variable {x y cb w1 b1 w2 b2 xt yc row}

/-- What a codebook's scores are, from the distances. -/
theorem score_eq (T : Tile x cb xt yc row) (X : Fin 4096 → Fin 512 → ℝ) (C : Fin 16 → Fin 256 → Fin 32 → ℝ)
    (hx : ∀ r j, x (ix2 r j) = ((X r j : ℝ) : EReal)) (hc : ∀ m k s, cb (ix3 m k s) = ((C m k s : ℝ) : EReal))
    (m : Fin 16) (r : Fin 512) (k : Fin 256) :
    ∃ D : ℝ, dist x cb (ix3 (row r) m k) = ((D : ℝ) : EReal) ∧ scores xt (cbt yc) (csq yc) m (ix2 r k)
      = ((D - ∑ s : Fin 32, X (row r) ⟨m.val * 32 + s.val, by omega⟩ * X (row r) ⟨m.val * 32 + s.val, by omega⟩ : ℝ) : EReal) := by
  refine ⟨_, Cert.ReferenceIdeal.Steps.dist_apply x cb X C hx hc (row r) m k, ?_⟩
  have e := Cert.KernelIdeal.scores_apply xt yc (fun r j => X (row r) j)
    (fun q s => C ⟨q.val / 256, by omega⟩ ⟨q.val % 256, Nat.mod_lt _ (by decide)⟩ s)
    (fun r j => (T.rows r j).trans (hx _ _))
    (fun q s => (T.codes q ⟨q.val / 256, by omega⟩ ⟨q.val % 256, Nat.mod_lt _ (by decide)⟩ s (by show q.val = 256 * (q.val / 256) + q.val % 256; omega)).trans (hc _ _ _))
    m r k
  refine e.trans (congrArg Real.toEReal ?_)
  have hm : (⟨(256 * m.val + k.val) / 256, by omega⟩ : Fin 16) = m := Fin.ext (by show (256 * m.val + k.val) / 256 = m.val; omega)
  have hk : (⟨(256 * m.val + k.val) % 256, Nat.mod_lt _ (by decide)⟩ : Fin 256) = k := Fin.ext (by show (256 * m.val + k.val) % 256 = k.val; omega)
  have hs : ∀ s : Fin 32, (⟨32 * m.val + s.val, by omega⟩ : Fin 512) = ⟨m.val * 32 + s.val, by omega⟩ := fun s => Fin.ext (by show 32 * m.val + s.val = m.val * 32 + s.val; omega)
  simp only [hm, hk, hs]
  exact score_real (fun s => X (row r) ⟨m.val * 32 + s.val, by omega⟩) (C m k)

/-- The codewords the kernel chooses are the reference's. -/
theorem chosen_eq (T : Tile x cb xt yc row) (h : Holds x y cb w1 b1 w2 b2) (r j : Fin 512) :
    chosen xt (cbt yc) (csq yc) (dec yc) (ix2 r j) = recon cb (nearest (dist x cb)) (ix2 (row r) j) := by
  obtain ⟨hx, hc, -, -, -, -, -, hn⟩ := h
  choose X hX using hx
  choose C hC using hc
  choose code hcode hlt using hn (row r)
  have hs : ∀ m k, k ≠ code m → scores xt (cbt yc) (csq yc) m (ix2 r (code m)) < scores xt (cbt yc) (csq yc) m (ix2 r k) := by
    intro m k hk
    obtain ⟨D, hD, eD⟩ := score_eq T X C hX hC m r (code m)
    obtain ⟨D', hD', eD'⟩ := score_eq T X C hX hC m r k
    have := hlt m k hk
    rw [hD, hD', EReal.coe_lt_coe_iff] at this
    rw [eD, eD', EReal.coe_lt_coe_iff]
    exact sub_lt_sub_right this _
  rw [Cert.KernelIdeal.chosen_apply xt (cbt yc) (csq yc) yc r code hs j,
    Cert.ReferenceIdeal.Steps.recon_apply cb (nearest (dist x cb)) (row r) code hcode j]
  exact T.codes _ _ _ _ rfl

/-- The logits of a row. -/
theorem logits_eq (T : Tile x cb xt yc row) (h : Holds x y cb w1 b1 w2 b2) (r : Fin 512) (c : Fin 100) :
    logitsV xt (cbt yc) (csq yc) (dec yc) w1 w2 (ix2 r c) = logitsOf x cb w1 b1 w2 b2 (ix2 (row r) c) := by
  have hR := chosen_eq T h r
  obtain ⟨-, -, -, -, h1, h2, -, -⟩ := h
  unfold logitsOf
  rw [logitsV_eq, Cert.KernelIdeal.layers_apply, Cert.ReferenceIdeal.Steps.net_apply _ w1 b1 w2 b2 h1 h2]
  simp only [hR]

/-- The logits are real. -/
theorem logits_real (h : Holds x y cb w1 b1 w2 b2) (n : Fin 4096) :
    ∃ L : Fin 100 → ℝ, ∀ c, logitsOf x cb w1 b1 w2 b2 (ix2 n c) = ((L c : ℝ) : EReal) := by
  obtain ⟨hx, hc, hw1, hw2, h1, h2, -, hn⟩ := h
  choose C hC using hc
  choose W1 hW1 using hw1
  choose W2 hW2 using hw2
  choose code hcode hlt using hn n
  have hR : ∀ j : Fin 512, recon cb (nearest (dist x cb)) (ix2 n j)
      = ((C ⟨j.val / 32, by omega⟩ (code ⟨j.val / 32, by omega⟩) ⟨j.val % 32, Nat.mod_lt _ (by decide)⟩ : ℝ) : EReal) :=
    fun j => (Cert.ReferenceIdeal.Steps.recon_apply cb (nearest (dist x cb)) n code hcode j).trans (hC _ _ _)
  refine ⟨fun c => ∑ k : Fin 2048, max (∑ j : Fin 512, C ⟨j.val / 32, by omega⟩ (code ⟨j.val / 32, by omega⟩) ⟨j.val % 32, Nat.mod_lt _ (by decide)⟩ * W1 j k) 0 * W2 k c, fun c => ?_⟩
  unfold logitsOf
  rw [Cert.ReferenceIdeal.Steps.net_apply _ w1 b1 w2 b2 h1 h2, ← coe_sum]
  refine Finset.sum_congr rfl fun k _ => ?_
  rw [EReal.coe_mul, hW2, (EReal.coe_strictMono.monotone).map_max, ← coe_sum, EReal.coe_zero]
  simp only [hR, hW1, EReal.coe_mul]

/-- The loss of a row. -/
theorem loss_eq (T : Tile x cb xt yc row) (h : Holds x y cb w1 b1 w2 b2) (yt : Vec Ideal Cert.KernelIdeal.S1x512 .i32) (r : Fin 512)
    (hy : yt (ix2 (n0 := 1) (n1 := 512) 0 r) = y (ix1 (n0 := 4096) (row r))) :
    lossV xt yt (cbt yc) (csq yc) (dec yc) w1 w2 (ix2 0 r) = lossOf (logp (shifted (logitsOf x cb w1 b1 w2 b2))) y (ix2 0 (row r)) := by
  obtain ⟨L, hL⟩ := logits_real h (row r)
  obtain ⟨v, hv⟩ := h.2.2.2.2.2.2.1 (row r)
  have hk : ∀ c, logitsV xt (cbt yc) (csq yc) (dec yc) w1 w2 (ix2 r c) = ((L c : ℝ) : EReal) := fun c => (logits_eq T h r c).trans (hL c)
  rw [Cert.ReferenceIdeal.Steps.loss_apply _ y (row r) L hL v hv]
  unfold lossV
  rw [Cert.KernelIdeal.loss_apply _ _ _ r v (hy.trans hv), lseV_eq, Cert.KernelIdeal.lse_apply _ r L hk, hk, ← EReal.coe_sub]
  refine congrArg Real.toEReal ?_
  ring

end Cert.Equation

end
-- ==== Proof.Results.lean ====
/-
  The idealized kernel's two result arrays, under the precondition, are the reference's two results of the same arguments.
-/
module

public import proofs.«01_k».proof.Proof.Arrays
public import proofs.«01_k».proof.Proof.Blocks
public import proofs.«01_k».proof.Proof.Equation

@[expose] public section

set_option maxRecDepth 16384

noncomputable section

namespace Cert.KernelIdeal

open Idealize.ShloMosaic Idealize.ShloMosaic.TcCoe
open Cert.KernelIdeal.Gen Cert.Equation
open Cert.ReferenceIdeal.Steps (logitsOf lossOf logp shifted)

variable (m : (ℓ : Loc nD τ sig) → Buf (Elt Ideal) ℓ) (c : Dev nD)

/-- The reference's results of the kernel's arguments. -/
def wantLogits : Vec Ideal S4096x100 .f32 :=
  logitsOf (F := Ideal) (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
def wantLosses : Vec Ideal S1x4096 .f32 :=
  lossOf (F := Ideal) (logp (shifted (wantLogits m c))) (m ((c.tc : Thread nD τ).loc main_arg1))

/-- The precondition of core `c`'s arguments. -/
abbrev TameAt : Prop :=
  Cert.Tame.Holds (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- The row of the arguments that tile `t` holds at `r`. -/
def rowAt (t : Fin cfg0.N) (r : Fin 512) : Fin 4096 :=
  ⟨t.val * 512 + r.val, by have : t.val < 8 := Nat.lt_of_lt_of_eq t.isLt N_0; omega⟩

theorem tile (t : Fin cfg0.N) :
    Tile (m ((c.tc : Thread nD τ).loc main_arg0)) (m ((c.tc : Thread nD τ).loc main_arg2)) (rowsB m c t) (codesB m c) (rowAt t) :=
  ⟨fun r j => rows_apply m c t r j _ rfl, fun q g k s hq => codes_apply m c q g k s hq⟩

theorem row_of (n : Fin 4096) : rowAt (pointOf n) ⟨n.val % 512, Nat.mod_lt _ (by decide)⟩ = n :=
  Fin.ext (by show n.val / 512 * 512 + n.val % 512 = n.val; omega)

theorem logits_want (h : TameAt m c) : allLogits m c = wantLogits m c := by
  funext i
  have e := logits_eq (tile m c (pointOf (i 0))) h ⟨(i 0).val % 512, Nat.mod_lt _ (by decide)⟩ (i 1)
  unfold allLogits logitsAt wantLogits
  rw [weight1_eq, weight2_eq]
  refine e.trans (congrArg _ ?_)
  funext a
  match a with
  | ⟨0, _⟩ => exact row_of (i 0)
  | ⟨1, _⟩ => rfl

theorem losses_want (h : TameAt m c) : lossRow m c = wantLosses m c := by
  funext i
  have e := loss_eq (tile m c (pointOf (i 1))) h (labelsAt (grid0.coords (pointOf (i 1))) (labelsB m c))
    ⟨(i 1).val % 512, Nat.mod_lt _ (by decide)⟩ (labelsAt_apply m c _ _ _ rfl)
  unfold lossRow lossAt wantLosses wantLogits
  rw [weight1_eq, weight2_eq]
  refine e.trans (congrArg _ ?_)
  funext a
  match a with
  | ⟨0, _⟩ => exact Fin.ext (by have := (i 0).isLt; change (i 0).val < 1 at this; show 0 = (i 0).val; omega)
  | ⟨1, _⟩ => exact row_of (i 1)

end Cert.KernelIdeal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tame
public import proofs.«01_k».proof.Proof.KernelKept
public import proofs.«01_k».proof.Proof.RefRun
public import proofs.«01_k».proof.Proof.Results
public import Idealize.ShloMosaic.Adequacy
public import Idealize.ShloMosaic.Init

@[expose] public section

noncomputable section

namespace Cert.Proof

open Idealize.ShloMosaic Idealize.SL.Sem

/-- The kernel ends and keeps its arguments. -/
theorem frame_kernel : Cert.quiescent_Kernel (hKernel := Cert.Kernel.Gen.facts) := fun m g _ =>
  (θ_run Cert.Kernel.defs _ _).mono (fun _ h => ⟨fun c => Cert.Kernel.args_kept h.1 c, h.2⟩)
    (Cert.Kernel.run_main (F := Bits) m g)

/-- So does the idealized kernel. -/
theorem frame_ideal : Cert.quiescent_KernelIdeal (hKernelIdeal := Cert.KernelIdeal.Gen.facts) := fun m g _ =>
  (θ_run Cert.KernelIdeal.defs _ _).mono (fun _ h => ⟨fun c => Cert.KernelIdeal.args_kept h.1 c, h.2⟩)
    (Cert.KernelIdeal.run_main (F := Ideal) m g)

/-- So does the reference, which has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Steps.run (F := Ideal) m g)

/-- Under the precondition both programs end with the same two arrays. -/
theorem algebraic : Cert.algebraic_KernelIdeal_ReferenceIdeal_pre_tame (hKernelIdeal := Cert.KernelIdeal.Gen.facts)
    (hReferenceIdeal := Cert.ReferenceIdeal.Gen.facts) (hPre_tame := Cert.Pre_tame.Gen.facts) := by
  intro m g m' g' hpre hagree
  have ht : ∀ c, Cert.KernelIdeal.TameAt m c := fun c => Cert.Tame.holds_of _ _ _ _ _ _ _ (hpre c)
  refine ⟨fun c => Cert.KernelIdeal.wantLogits m c, fun c => Cert.KernelIdeal.wantLosses m c, ?_, ?_⟩
  · exact (θ_run Cert.KernelIdeal.defs _ _).mono (fun _ h c =>
      ⟨(Cert.KernelIdeal.logits_end h.1 c).trans (Cert.KernelIdeal.logits_want m c (ht c)),
        (Cert.KernelIdeal.losses_end h.1 c).trans (Cert.KernelIdeal.losses_want m c (ht c)), Cert.KernelIdeal.args_kept h.1 c⟩)
      (Cert.KernelIdeal.run_main (F := Ideal) m g)
  · refine (θ_run Cert.ReferenceIdeal.defs _ _).mono (fun _ h c => ?_) (Cert.ReferenceIdeal.Steps.run (F := Ideal) m' g')
    obtain ⟨e0, e1, e2, e3, e4, e5, e6⟩ := hagree c
    refine ⟨(h c).1.trans ?_, (h c).2.1.trans ?_, (h c).2.2⟩
    · unfold Cert.KernelIdeal.wantLogits
      rw [e0, e2, e3, e4, e5, e6]
    · unfold Cert.KernelIdeal.wantLosses Cert.KernelIdeal.wantLogits
      rw [e0, e1, e2, e3, e4, e5, e6]

theorem claim : Cert.Claim :=
  ⟨Cert.Kernel.Gen.facts, Cert.KernelIdeal.Gen.facts, Cert.ReferenceIdeal.Gen.facts, Cert.Pre_tame.Gen.facts,
    frame_kernel, frame_ideal, fun m g _ => frame_ideal m g trivial, frame_reference, fun m g _ => frame_reference m g trivial,
    trivial, algebraic⟩

end Cert.Proof

end
